-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_servable_KernelIdeal [hPre_servable_KernelIdeal : Cert.Pre_servable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_servable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_servable_ReferenceIdeal [hPre_servable_ReferenceIdeal : Cert.Pre_servable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_servable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_servable_KernelIdeal [hKernelIdeal : Cert.KernelIdeal.Facts] [hPre_servable_KernelIdeal : Cert.Pre_servable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_servable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_servable_ReferenceIdeal [hReferenceIdeal : Cert.ReferenceIdeal.Facts] [hPre_servable_ReferenceIdeal : Cert.Pre_servable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_servable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_servable_KernelIdeal [hKernelIdeal : Cert.KernelIdeal.Facts] [hReferenceIdeal : Cert.ReferenceIdeal.Facts] [hPre_servable_KernelIdeal : Cert.Pre_servable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_servable_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_servable_KernelIdeal : Cert.Pre_servable_KernelIdeal.Facts) (hPre_servable_ReferenceIdeal : Cert.Pre_servable_ReferenceIdeal.Facts),
    quiescent_Kernel (hKernel := hKernel)
    ∧ quiescent_KernelIdeal (hKernelIdeal := hKernelIdeal)
    ∧ quiescent_KernelIdeal_pre_servable_KernelIdeal (hKernelIdeal := hKernelIdeal) (hPre_servable_KernelIdeal := hPre_servable_KernelIdeal)
    ∧ quiescent_ReferenceIdeal (hReferenceIdeal := hReferenceIdeal)
    ∧ quiescent_ReferenceIdeal_pre_servable_ReferenceIdeal (hReferenceIdeal := hReferenceIdeal) (hPre_servable_ReferenceIdeal := hPre_servable_ReferenceIdeal)
    ∧ preserves_Kernel_KernelIdeal
    ∧ algebraic_KernelIdeal_ReferenceIdeal_pre_servable_KernelIdeal (hKernelIdeal := hKernelIdeal) (hReferenceIdeal := hReferenceIdeal) (hPre_servable_KernelIdeal := hPre_servable_KernelIdeal)
-- ==== Pre_servable_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩
abbrev S16 : Shape := ⟨1, ![16]⟩
abbrev S1x16 : Shape := ⟨2, ![1, 16]⟩
abbrev S1024x16 : Shape := ⟨2, ![1024, 16]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S1024x1 : S_.BroadcastsInDim S1024x1 (![] : Fin 0 → Fin S1024x1.rank)
  reducesTo_S1024x1_S_d0_1 : S1024x1.ReducesTo [0, 1] S_
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  natLt_1_32 : 1 < 32
  reducesTo_S1024x16_S16_d0 : S1024x16.ReducesTo [0] S16
  bcast_S_S16 : S_.BroadcastsInDim S16 (![] : Fin 0 → Fin S16.rank)
  reducesTo_S16_S_d0 : S16.ReducesTo [0] S_

variable [Facts]

def fn_part1 {F : FTy → Type} [FloatOps F] (main_arg2 : IVec S1024x1 32) (main_v12 : IVec S_ 1) (main_v14 : IVec S1024x1 1) (main_v15 : IVec S1024x1 32) : IVec S_ 1 :=
  let main_v16 : IVec S1024x1 1 := cmpi .slt main_arg2 main_v15
  let main_v17 : IVec S1024x1 1 := andi main_v14 main_v16
  let main_c_6 : IVec S_ 1 := constantI S_ 1 1#1
  let main_v18 : IVec S_ 1 := (fun x v => Host.reduce IntOp.andi x v reducesTo_S1024x1_S_d0_1 h_S_) main_v17 main_c_6
  let main_v19 : IVec S16 32 := iotaInDim S16 32 0
  let main_v20 : IVec S1x16 32 := broadcastInDim S1x16 ![1] bcast_S16_S1x16_1 main_v19
  let main_v21 : IVec S1024x16 32 := broadcastInDim S1024x16 ![0, 1] bcast_S1024x1_S1024x16_0_1 main_arg2
  let main_v22 : IVec S1024x16 32 := broadcastInDim S1024x16 ![0, 1] bcast_S1x16_S1024x16_0_1 main_v20
  let main_v23 : IVec S1024x16 1 := cmpi .eq main_v21 main_v22
  let main_v24 : IVec S1024x16 32 := (extui 32 · natLt_1_32) main_v23
  let main_c_7 : IVec S_ 32 := constantI S_ 32 0#32
  let main_v25 : IVec S16 32 := (fun x v => Host.reduce IntOp.addi x v reducesTo_S1024x16_S16_d0 h_S_) main_v24 main_c_7
  let main_v26 : IVec S_ 1 := andi main_v12 main_v18
  let main_c_8 : IVec S_ 32 := constantI S_ 32 128#32
  let main_v27 : IVec S16 32 := broadcastInDim S16 ![] bcast_S_S16 main_c_8
  let main_v28 : IVec S16 1 := cmpi .sle main_v25 main_v27
  let main_c_9 : IVec S_ 1 := constantI S_ 1 1#1
  let main_v29 : IVec S_ 1 := (fun x v => Host.reduce IntOp.andi x v reducesTo_S16_S_d0 h_S_) main_v28 main_c_9
  let main_v30 : IVec S_ 1 := andi main_v26 main_v29
  main_v30

def fn {F : FTy → Type} [FloatOps F] (main_arg0 : FVec F S1024x512 .bf16) (main_arg1 : FVec F S512x16 .bf16) (main_arg2 : IVec S1024x1 32) (main_arg3 : FVec F S4x512x1024 .bf16) (main_arg4 : FVec F S512x1024 .bf16) : IVec S_ 1 :=
  let main_cst : FVec F S_ .bf16 := constant S_ .bf16 0xFF80#16
  let main_v0 : FVec F S1024x512 .bf16 := broadcastInDim S1024x512 ![] bcast_S_S1024x512 main_cst
  let main_v1 : IVec S1024x512 1 := cmpf .ogt main_arg0 main_v0
  let main_cst_0 : FVec F S_ .bf16 := constant S_ .bf16 0x7F80#16
  let main_v2 : FVec F S1024x512 .bf16 := broadcastInDim S1024x512 ![] bcast_S_S1024x512 main_cst_0
  let main_v3 : IVec S1024x512 1 := cmpf .olt main_arg0 main_v2
  let main_v4 : IVec S1024x512 1 := andi main_v1 main_v3
  let main_c : IVec S_ 1 := constantI S_ 1 1#1
  let main_v5 : IVec S_ 1 := (fun x v => Host.reduce IntOp.andi x v reducesTo_S1024x512_S_d0_1 h_S_) main_v4 main_c
  let main_cst_1 : FVec F S_ .bf16 := constant S_ .bf16 0xFF80#16
  let main_v6 : FVec F S512x16 .bf16 := broadcastInDim S512x16 ![] bcast_S_S512x16 main_cst_1
  let main_v7 : IVec S512x16 1 := cmpf .ogt main_arg1 main_v6
  let main_cst_2 : FVec F S_ .bf16 := constant S_ .bf16 0x7F80#16
  let main_v8 : FVec F S512x16 .bf16 := broadcastInDim S512x16 ![] bcast_S_S512x16 main_cst_2
  let main_v9 : IVec S512x16 1 := cmpf .olt main_arg1 main_v8
  let main_v10 : IVec S512x16 1 := andi main_v7 main_v9
  let main_c_3 : IVec S_ 1 := constantI S_ 1 1#1
  let main_v11 : IVec S_ 1 := (fun x v => Host.reduce IntOp.andi x v reducesTo_S512x16_S_d0_1 h_S_) main_v10 main_c_3
  let main_v12 : IVec S_ 1 := andi main_v5 main_v11
  let main_c_4 : IVec S_ 32 := constantI S_ 32 0#32
  let main_v13 : IVec S1024x1 32 := broadcastInDim S1024x1 ![] bcast_S_S1024x1 main_c_4
  let main_v14 : IVec S1024x1 1 := cmpi .sge main_arg2 main_v13
  let main_c_5 : IVec S_ 32 := constantI S_ 32 16#32
  let main_v15 : IVec S1024x1 32 := broadcastInDim S1024x1 ![] bcast_S_S1024x1 main_c_5
  fn_part1 (F := F) main_arg2 main_v12 main_v14 main_v15
-- ==== Pre_servable_ReferenceIdeal.lean ====
abbrev S4096x512 : Shape := ⟨2, ![4096, 512]⟩
abbrev S512x16 : Shape := ⟨2, ![512, 16]⟩
abbrev S4096x1 : Shape := ⟨2, ![4096, 1]⟩
abbrev S16x512x1024 : Shape := ⟨3, ![16, 512, 1024]⟩
abbrev S512x1024 : Shape := ⟨2, ![512, 1024]⟩
abbrev S_ : Shape := ⟨0, ![]⟩
abbrev S16 : Shape := ⟨1, ![16]⟩
abbrev S1x16 : Shape := ⟨2, ![1, 16]⟩
abbrev S4096x16 : Shape := ⟨2, ![4096, 16]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S4096x1 : S_.BroadcastsInDim S4096x1 (![] : Fin 0 → Fin S4096x1.rank)
  reducesTo_S4096x1_S_d0_1 : S4096x1.ReducesTo [0, 1] S_
  bcast_S16_S1x16_1 : S16.BroadcastsInDim S1x16 (![1] : Fin 1 → Fin S1x16.rank)
  bcast_S4096x1_S4096x16_0_1 : S4096x1.BroadcastsInDim S4096x16 (![0, 1] : Fin 2 → Fin S4096x16.rank)
  bcast_S1x16_S4096x16_0_1 : S1x16.BroadcastsInDim S4096x16 (![0, 1] : Fin 2 → Fin S4096x16.rank)
  natLt_1_32 : 1 < 32
  reducesTo_S4096x16_S16_d0 : S4096x16.ReducesTo [0] S16
  bcast_S_S16 : S_.BroadcastsInDim S16 (![] : Fin 0 → Fin S16.rank)
  reducesTo_S16_S_d0 : S16.ReducesTo [0] S_

variable [Facts]

def fn_part1 {F : FTy → Type} [FloatOps F] (main_arg2 : IVec S4096x1 32) (main_v12 : IVec S_ 1) (main_v14 : IVec S4096x1 1) (main_v15 : IVec S4096x1 32) : IVec S_ 1 :=
  let main_v16 : IVec S4096x1 1 := cmpi .slt main_arg2 main_v15
  let main_v17 : IVec S4096x1 1 := andi main_v14 main_v16
  let main_c_6 : IVec S_ 1 := constantI S_ 1 1#1
  let main_v18 : IVec S_ 1 := (fun x v => Host.reduce IntOp.andi x v reducesTo_S4096x1_S_d0_1 h_S_) main_v17 main_c_6
  let main_v19 : IVec S16 32 := iotaInDim S16 32 0
  let main_v20 : IVec S1x16 32 := broadcastInDim S1x16 ![1] bcast_S16_S1x16_1 main_v19
  let main_v21 : IVec S4096x16 32 := broadcastInDim S4096x16 ![0, 1] bcast_S4096x1_S4096x16_0_1 main_arg2
  let main_v22 : IVec S4096x16 32 := broadcastInDim S4096x16 ![0, 1] bcast_S1x16_S4096x16_0_1 main_v20
  let main_v23 : IVec S4096x16 1 := cmpi .eq main_v21 main_v22
  let main_v24 : IVec S4096x16 32 := (extui 32 · natLt_1_32) main_v23
  let main_c_7 : IVec S_ 32 := constantI S_ 32 0#32
  let main_v25 : IVec S16 32 := (fun x v => Host.reduce IntOp.addi x v reducesTo_S4096x16_S16_d0 h_S_) main_v24 main_c_7
  let main_v26 : IVec S_ 1 := andi main_v12 main_v18
  let main_c_8 : IVec S_ 32 := constantI S_ 32 128#32
  let main_v27 : IVec S16 32 := broadcastInDim S16 ![] bcast_S_S16 main_c_8
  let main_v28 : IVec S16 1 := cmpi .sle main_v25 main_v27
  let main_c_9 : IVec S_ 1 := constantI S_ 1 1#1
  let main_v29 : IVec S_ 1 := (fun x v => Host.reduce IntOp.andi x v reducesTo_S16_S_d0 h_S_) main_v28 main_c_9
  let main_v30 : IVec S_ 1 := andi main_v26 main_v29
  main_v30

def fn {F : FTy → Type} [FloatOps F] (main_arg0 : FVec F S4096x512 .bf16) (main_arg1 : FVec F S512x16 .bf16) (main_arg2 : IVec S4096x1 32) (main_arg3 : FVec F S16x512x1024 .bf16) (main_arg4 : FVec F S512x1024 .bf16) : IVec S_ 1 :=
  let main_cst : FVec F S_ .bf16 := constant S_ .bf16 0xFF80#16
  let main_v0 : FVec F S4096x512 .bf16 := broadcastInDim S4096x512 ![] bcast_S_S4096x512 main_cst
  let main_v1 : IVec S4096x512 1 := cmpf .ogt main_arg0 main_v0
  let main_cst_0 : FVec F S_ .bf16 := constant S_ .bf16 0x7F80#16
  let main_v2 : FVec F S4096x512 .bf16 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .bf16 := constant S_ .bf16 0xFF80#16
  let main_v6 : FVec F S512x16 .bf16 := broadcastInDim S512x16 ![] bcast_S_S512x16 main_cst_1
  let main_v7 : IVec S512x16 1 := cmpf .ogt main_arg1 main_v6
  let main_cst_2 : FVec F S_ .bf16 := constant S_ .bf16 0x7F80#16
  let main_v8 : FVec F S512x16 .bf16 := broadcastInDim S512x16 ![] bcast_S_S512x16 main_cst_2
  let main_v9 : IVec S512x16 1 := cmpf .olt main_arg1 main_v8
  let main_v10 : IVec S512x16 1 := andi main_v7 main_v9
  let main_c_3 : IVec S_ 1 := constantI S_ 1 1#1
  let main_v11 : IVec S_ 1 := (fun x v => Host.reduce IntOp.andi x v reducesTo_S512x16_S_d0_1 h_S_) main_v10 main_c_3
  let main_v12 : IVec S_ 1 := andi main_v5 main_v11
  let main_c_4 : IVec S_ 32 := constantI S_ 32 0#32
  let main_v13 : IVec S4096x1 32 := broadcastInDim S4096x1 ![] bcast_S_S4096x1 main_c_4
  let main_v14 : IVec S4096x1 1 := cmpi .sge main_arg2 main_v13
  let main_c_5 : IVec S_ 32 := constantI S_ 32 16#32
  let main_v15 : IVec S4096x1 32 := broadcastInDim S4096x1 ![] bcast_S_S4096x1 main_c_5
  fn_part1 (F := F) main_arg2 main_v12 main_v14 main_v15
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S2048x512 : Shape := ⟨2, ![2048, 512]⟩
abbrev S4x512x512 : Shape := ⟨3, ![4, 512, 512]⟩
abbrev S2048x1024 : Shape := ⟨2, ![2048, 1024]⟩
abbrev S4 : Shape := ⟨1, ![4]⟩
abbrev S_ : Shape := ⟨0, ![]⟩
abbrev S1024x16 : Shape := ⟨2, ![1024, 16]⟩
abbrev S1024 : Shape := ⟨1, ![1024]⟩
abbrev S1024x2048 : Shape := ⟨2, ![1024, 2048]⟩
abbrev S512x512 : Shape := ⟨2, ![512, 512]⟩
abbrev S1 : Shape := ⟨1, ![1]⟩
abbrev S1x512x512 : Shape := ⟨3, ![1, 512, 512]⟩
abbrev S128x512 : Shape := ⟨2, ![128, 512]⟩
abbrev S1x512x1024 : Shape := ⟨3, ![1, 512, 1024]⟩
abbrev S128x1024 : Shape := ⟨2, ![128, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S1024x1024, .f32⟩
  | .local _ .vmem, ⟨0, _⟩ => ⟨S1024x512, .bf16⟩
  | .local _ .vmem, ⟨1, _⟩ => ⟨S512x16, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S1024x1024, .f32⟩
  | .local _ .vmem, ⟨6, _⟩ => ⟨S2048x512, .bf16⟩
  | .local _ .vmem, ⟨7, _⟩ => ⟨S4x512x512, .bf16⟩
  | .local _ .vmem, ⟨8, _⟩ => ⟨S2048x1024, .bf16⟩
  | .local _ .vmem, ⟨9, _⟩ => ⟨S4x512x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_58 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v158 : BitVec 32 := Scalar.addi v2 c1_i32_58
  let c4_i32_59 : BitVec 32 := 4#32
  let c0_i32_60 : BitVec 32 := 0#32
  let v159 : BitVec 1 := Scalar.cmpi .eq c4_i32_59 c0_i32_60
  let c1_i32_61 : BitVec 32 := 1#32
  let v160 : BitVec 32 := Scalar.select v159 c1_i32_61 c4_i32_59
  let v161 : BitVec 32 := Scalar.remsi v158 v160
  let c0_i32_63 : BitVec 32 := 0#32
  let v163 : BitVec 1 := Scalar.cmpi .slt v161 c0_i32_63
  let c0_i32_64 : BitVec 32 := 0#32
  let v164 : BitVec 1 := Scalar.cmpi .slt v160 c0_i32_64
  let v165 : BitVec 1 := Scalar.xori v163 v164
  let c0_i32_62 : BitVec 32 := 0#32
  let v162 : BitVec 1 := Scalar.cmpi .ne v161 c0_i32_62
  let v166 : BitVec 1 := Scalar.andi v165 v162
  let v167 : BitVec 32 := Scalar.addi v161 v160
  let v168 : BitVec 32 := Scalar.select v166 v167 v161
  ![v168.toNat]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_69 : BitVec 32 := 0#32
  let c0_i32_70 : BitVec 32 := 0#32
  ![v2.toNat, 0, 0]
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v158 : BitVec 32 := Scalar.addi v2 c1_i32_58
  let c4_i32_59 : BitVec 32 := 4#32
  let c0_i32_60 : BitVec 32 := 0#32
  let v159 : BitVec 1 := Scalar.cmpi .eq c4_i32_59 c0_i32_60
  let c1_i32_61 : BitVec 32 := 1#32
  let v160 : BitVec 32 := Scalar.select v159 c1_i32_61 c4_i32_59
  let v161 : BitVec 32 := Scalar.remsi v158 v160
  let c0_i32_63 : BitVec 32 := 0#32
  let v163 : BitVec 1 := Scalar.cmpi .slt v161 c0_i32_63
  let c0_i32_64 : BitVec 32 := 0#32
  let v164 : BitVec 1 := Scalar.cmpi .slt v160 c0_i32_64
  let v165 : BitVec 1 := Scalar.xori v163 v164
  let c0_i32_62 : BitVec 32 := 0#32
  let v162 : BitVec 1 := Scalar.cmpi .ne v161 c0_i32_62
  let v166 : BitVec 1 := Scalar.andi v165 v162
  let v167 : BitVec 32 := Scalar.addi v161 v160
  let v168 : BitVec 32 := Scalar.select v166 v167 v161
  let c1_i32_67 : BitVec 32 := 1#32
  let v175 : BitVec 32 := Scalar.muli v168 c1_i32_67
  let v176 : BitVec 32 := Scalar.addi c0_i32_68 v175
  v176.toNat
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_73 : BitVec 32 := 3#32
  let v184 : BitVec 32 := Scalar.addi v2 c3_i32_73
  let c4_i32_74 : BitVec 32 := 4#32
  let c0_i32_75 : BitVec 32 := 0#32
  let v185 : BitVec 1 := Scalar.cmpi .eq c4_i32_74 c0_i32_75
  let c1_i32_76 : BitVec 32 := 1#32
  let v186 : BitVec 32 := Scalar.select v185 c1_i32_76 c4_i32_74
  let v187 : BitVec 32 := Scalar.remsi v184 v186
  let c0_i32_78 : BitVec 32 := 0#32
  let v189 : BitVec 1 := Scalar.cmpi .slt v187 c0_i32_78
  let c0_i32_79 : BitVec 32 := 0#32
  let v190 : BitVec 1 := Scalar.cmpi .slt v186 c0_i32_79
  let v191 : BitVec 1 := Scalar.xori v189 v190
  let c0_i32_77 : BitVec 32 := 0#32
  let v188 : BitVec 1 := Scalar.cmpi .ne v187 c0_i32_77
  let v192 : BitVec 1 := Scalar.andi v191 v188
  let v193 : BitVec 32 := Scalar.addi v187 v186
  let v194 : BitVec 32 := Scalar.select v192 v193 v187
  let c1_i32_82 : BitVec 32 := 1#32
  let v201 : BitVec 32 := Scalar.muli v194 c1_i32_82
  let v202 : BitVec 32 := Scalar.addi c0_i32_83 v201
  v202.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v210 : BitVec 32 := Scalar.addi v2 c2_i32_87
  let c4_i32_88 : BitVec 32 := 4#32
  let c0_i32_89 : BitVec 32 := 0#32
  let v211 : BitVec 1 := Scalar.cmpi .eq c4_i32_88 c0_i32_89
  let c1_i32_90 : BitVec 32 := 1#32
  let v212 : BitVec 32 := Scalar.select v211 c1_i32_90 c4_i32_88
  let v213 : BitVec 32 := Scalar.remsi v210 v212
  let c0_i32_92 : BitVec 32 := 0#32
  let v215 : BitVec 1 := Scalar.cmpi .slt v213 c0_i32_92
  let c0_i32_93 : BitVec 32 := 0#32
  let v216 : BitVec 1 := Scalar.cmpi .slt v212 c0_i32_93
  let v217 : BitVec 1 := Scalar.xori v215 v216
  let c0_i32_91 : BitVec 32 := 0#32
  let v214 : BitVec 1 := Scalar.cmpi .ne v213 c0_i32_91
  let v218 : BitVec 1 := Scalar.andi v217 v214
  let v219 : BitVec 32 := Scalar.addi v213 v212
  let v220 : BitVec 32 := Scalar.select v218 v219 v213
  let c1_i32_96 : BitVec 32 := 1#32
  let v227 : BitVec 32 := Scalar.muli v220 c1_i32_96
  let v228 : BitVec 32 := Scalar.addi c0_i32_97 v227
  v228.toNat
def k0_off4 (d0 : Dev nD) (c1_i32_121 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v273 : BitVec 32 := Scalar.addi v2 c1_i32_121
  let c4_i32_122 : BitVec 32 := 4#32
  let c0_i32_123 : BitVec 32 := 0#32
  let v274 : BitVec 1 := Scalar.cmpi .eq c4_i32_122 c0_i32_123
  let c1_i32_124 : BitVec 32 := 1#32
  let v275 : BitVec 32 := Scalar.select v274 c1_i32_124 c4_i32_122
  let v276 : BitVec 32 := Scalar.remsi v273 v275
  let c0_i32_126 : BitVec 32 := 0#32
  let v278 : BitVec 1 := Scalar.cmpi .slt v276 c0_i32_126
  let c0_i32_127 : BitVec 32 := 0#32
  let v279 : BitVec 1 := Scalar.cmpi .slt v275 c0_i32_127
  let v280 : BitVec 1 := Scalar.xori v278 v279
  let c0_i32_125 : BitVec 32 := 0#32
  let v277 : BitVec 1 := Scalar.cmpi .ne v276 c0_i32_125
  let v281 : BitVec 1 := Scalar.andi v280 v277
  let v282 : BitVec 32 := Scalar.addi v276 v275
  let v283 : BitVec 32 := Scalar.select v281 v282 v276
  let c0_i32_130 : BitVec 32 := 0#32
  let c0_i32_131 : BitVec 32 := 0#32
  ![v283.toNat, 0, 0]
def k0_off5 (d0 : Dev nD) (c1_i32_121 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v273 : BitVec 32 := Scalar.addi v2 c1_i32_121
  let c4_i32_122 : BitVec 32 := 4#32
  let c0_i32_123 : BitVec 32 := 0#32
  let v274 : BitVec 1 := Scalar.cmpi .eq c4_i32_122 c0_i32_123
  let c1_i32_124 : BitVec 32 := 1#32
  let v275 : BitVec 32 := Scalar.select v274 c1_i32_124 c4_i32_122
  let v276 : BitVec 32 := Scalar.remsi v273 v275
  let c0_i32_126 : BitVec 32 := 0#32
  let v278 : BitVec 1 := Scalar.cmpi .slt v276 c0_i32_126
  let c0_i32_127 : BitVec 32 := 0#32
  let v279 : BitVec 1 := Scalar.cmpi .slt v275 c0_i32_127
  let v280 : BitVec 1 := Scalar.xori v278 v279
  let c0_i32_125 : BitVec 32 := 0#32
  let v277 : BitVec 1 := Scalar.cmpi .ne v276 c0_i32_125
  let v281 : BitVec 1 := Scalar.andi v280 v277
  let v282 : BitVec 32 := Scalar.addi v276 v275
  let v283 : BitVec 32 := Scalar.select v281 v282 v276
  let v292 : Index := Scalar.indexCast v283
  let c0_134 : Index := 0#32
  let c0_135 : Index := 0#32
  ![v292.toNat, 0, 0]
def k0_off6 (d0 : Dev nD) (c1_i32_121 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v273 : BitVec 32 := Scalar.addi v2 c1_i32_121
  let c4_i32_122 : BitVec 32 := 4#32
  let c0_i32_123 : BitVec 32 := 0#32
  let v274 : BitVec 1 := Scalar.cmpi .eq c4_i32_122 c0_i32_123
  let c1_i32_124 : BitVec 32 := 1#32
  let v275 : BitVec 32 := Scalar.select v274 c1_i32_124 c4_i32_122
  let v276 : BitVec 32 := Scalar.remsi v273 v275
  let c0_i32_126 : BitVec 32 := 0#32
  let v278 : BitVec 1 := Scalar.cmpi .slt v276 c0_i32_126
  let c0_i32_127 : BitVec 32 := 0#32
  let v279 : BitVec 1 := Scalar.cmpi .slt v275 c0_i32_127
  let v280 : BitVec 1 := Scalar.xori v278 v279
  let c0_i32_125 : BitVec 32 := 0#32
  let v277 : BitVec 1 := Scalar.cmpi .ne v276 c0_i32_125
  let v281 : BitVec 1 := Scalar.andi v280 v277
  let v282 : BitVec 32 := Scalar.addi v276 v275
  let v283 : BitVec 32 := Scalar.select v281 v282 v276
  let v313 : Index := Scalar.indexCast v283
  let c0_140 : Index := 0#32
  let c0_141 : Index := 0#32
  ![v313.toNat, 0, 0]
def k0_off7 (d0 : Dev nD) (c1_i32_121 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v273 : BitVec 32 := Scalar.addi v2 c1_i32_121
  let c4_i32_122 : BitVec 32 := 4#32
  let c0_i32_123 : BitVec 32 := 0#32
  let v274 : BitVec 1 := Scalar.cmpi .eq c4_i32_122 c0_i32_123
  let c1_i32_124 : BitVec 32 := 1#32
  let v275 : BitVec 32 := Scalar.select v274 c1_i32_124 c4_i32_122
  let v276 : BitVec 32 := Scalar.remsi v273 v275
  let c0_i32_126 : BitVec 32 := 0#32
  let v278 : BitVec 1 := Scalar.cmpi .slt v276 c0_i32_126
  let c0_i32_127 : BitVec 32 := 0#32
  let v279 : BitVec 1 := Scalar.cmpi .slt v275 c0_i32_127
  let v280 : BitVec 1 := Scalar.xori v278 v279
  let c0_i32_125 : BitVec 32 := 0#32
  let v277 : BitVec 1 := Scalar.cmpi .ne v276 c0_i32_125
  let v281 : BitVec 1 := Scalar.andi v280 v277
  let v282 : BitVec 32 := Scalar.addi v276 v275
  let v283 : BitVec 32 := Scalar.select v281 v282 v276
  let c0_i32_146 : BitVec 32 := 0#32
  let c0_i32_147 : BitVec 32 := 0#32
  ![v283.toNat, 0, 0]
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_121 : BitVec 32 := 1#32
  let v273 : BitVec 32 := Scalar.addi v2 c1_i32_121
  let c4_i32_122 : BitVec 32 := 4#32
  let c0_i32_123 : BitVec 32 := 0#32
  let v274 : BitVec 1 := Scalar.cmpi .eq c4_i32_122 c0_i32_123
  let c1_i32_124 : BitVec 32 := 1#32
  let v275 : BitVec 32 := Scalar.select v274 c1_i32_124 c4_i32_122
  let v276 : BitVec 32 := Scalar.remsi v273 v275
  let c0_i32_126 : BitVec 32 := 0#32
  let v278 : BitVec 1 := Scalar.cmpi .slt v276 c0_i32_126
  let c0_i32_127 : BitVec 32 := 0#32
  let v279 : BitVec 1 := Scalar.cmpi .slt v275 c0_i32_127
  let v280 : BitVec 1 := Scalar.xori v278 v279
  let c0_i32_125 : BitVec 32 := 0#32
  let v277 : BitVec 1 := Scalar.cmpi .ne v276 c0_i32_125
  let v281 : BitVec 1 := Scalar.andi v280 v277
  let v282 : BitVec 32 := Scalar.addi v276 v275
  let v283 : BitVec 32 := Scalar.select v281 v282 v276
  let c1_i32_142 : BitVec 32 := 1#32
  let v317 : BitVec 32 := Scalar.muli v283 c1_i32_142
  let v318 : BitVec 32 := Scalar.addi c0_i32_143 v317
  v318.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_148 : BitVec 32 := 3#32
  let v326 : BitVec 32 := Scalar.addi v2 c3_i32_148
  let c4_i32_149 : BitVec 32 := 4#32
  let c0_i32_150 : BitVec 32 := 0#32
  let v327 : BitVec 1 := Scalar.cmpi .eq c4_i32_149 c0_i32_150
  let c1_i32_151 : BitVec 32 := 1#32
  let v328 : BitVec 32 := Scalar.select v327 c1_i32_151 c4_i32_149
  let v329 : BitVec 32 := Scalar.remsi v326 v328
  let c0_i32_153 : BitVec 32 := 0#32
  let v331 : BitVec 1 := Scalar.cmpi .slt v329 c0_i32_153
  let c0_i32_154 : BitVec 32 := 0#32
  let v332 : BitVec 1 := Scalar.cmpi .slt v328 c0_i32_154
  let v333 : BitVec 1 := Scalar.xori v331 v332
  let c0_i32_152 : BitVec 32 := 0#32
  let v330 : BitVec 1 := Scalar.cmpi .ne v329 c0_i32_152
  let v334 : BitVec 1 := Scalar.andi v333 v330
  let v335 : BitVec 32 := Scalar.addi v329 v328
  let v336 : BitVec 32 := Scalar.select v334 v335 v329
  let c1_i32_169 : BitVec 32 := 1#32
  let v370 : BitVec 32 := Scalar.muli v336 c1_i32_169
  let v371 : BitVec 32 := Scalar.addi c0_i32_170 v370
  v371.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_175 : BitVec 32 := 2#32
  let v379 : BitVec 32 := Scalar.addi v2 c2_i32_175
  let c4_i32_176 : BitVec 32 := 4#32
  let c0_i32_177 : BitVec 32 := 0#32
  let v380 : BitVec 1 := Scalar.cmpi .eq c4_i32_176 c0_i32_177
  let c1_i32_178 : BitVec 32 := 1#32
  let v381 : BitVec 32 := Scalar.select v380 c1_i32_178 c4_i32_176
  let v382 : BitVec 32 := Scalar.remsi v379 v381
  let c0_i32_180 : BitVec 32 := 0#32
  let v384 : BitVec 1 := Scalar.cmpi .slt v382 c0_i32_180
  let c0_i32_181 : BitVec 32 := 0#32
  let v385 : BitVec 1 := Scalar.cmpi .slt v381 c0_i32_181
  let v386 : BitVec 1 := Scalar.xori v384 v385
  let c0_i32_179 : BitVec 32 := 0#32
  let v383 : BitVec 1 := Scalar.cmpi .ne v382 c0_i32_179
  let v387 : BitVec 1 := Scalar.andi v386 v383
  let v388 : BitVec 32 := Scalar.addi v382 v381
  let v389 : BitVec 32 := Scalar.select v387 v388 v382
  let c1_i32_196 : BitVec 32 := 1#32
  let v423 : BitVec 32 := Scalar.muli v389 c1_i32_196
  let v424 : BitVec 32 := Scalar.addi c0_i32_197 v423
  v424.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x512 : Shape := ⟨2, ![4096, 512]⟩
abbrev S512x16 : Shape := ⟨2, ![512, 16]⟩
abbrev S4096x1 : Shape := ⟨2, ![4096, 1]⟩
abbrev S16x512x1024 : Shape := ⟨3, ![16, 512, 1024]⟩
abbrev S512x1024 : Shape := ⟨2, ![512, 1024]⟩
abbrev S4096x16 : Shape := ⟨2, ![4096, 16]⟩
abbrev S_ : Shape := ⟨0, ![]⟩
abbrev S4096 : Shape := ⟨1, ![4096]⟩
abbrev S4096x1024 : Shape := ⟨2, ![4096, 1024]⟩
abbrev S16 : Shape := ⟨1, ![16]⟩
abbrev S1x16 : Shape := ⟨2, ![1, 16]⟩
abbrev S4096x16x1024 : Shape := ⟨3, ![4096, 16, 1024]⟩
abbrev S4096x16x1 : Shape := ⟨3, ![4096, 16, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x16, .bf16⟩
  | .hbm, ⟨2, _⟩ => ⟨S4096x1, .i32⟩
  | .hbm, ⟨3, _⟩ => ⟨S16x512x1024, .bf16⟩
  | .hbm, ⟨4, _⟩ => ⟨S512x1024, .bf16⟩
  | .hbm, ⟨5, _⟩ => ⟨S4096x512, .f32⟩
  | .hbm, ⟨6, _⟩ => ⟨S512x16, .f32⟩
  | .hbm, ⟨7, _⟩ => ⟨S4096x16, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x16, .f32⟩
  | .hbm, ⟨18, _⟩ => ⟨S4096x16, .f32⟩
  | .hbm, ⟨19, _⟩ => ⟨S512x1024, .f32⟩
  | .hbm, ⟨20, _⟩ => ⟨S4096x1024, .f32⟩
  | .hbm, ⟨21, _⟩ => ⟨S16, .i32⟩
  | .hbm, ⟨22, _⟩ => ⟨S1x16, .i32⟩
  | .hbm, ⟨23, _⟩ => ⟨S4096x16, .i32⟩
  | .hbm, ⟨24, _⟩ => ⟨S4096x16, .i32⟩
  | .hbm, ⟨25, _⟩ => ⟨S4096x16, .i1⟩
  | .hbm, ⟨26, _⟩ => ⟨S_, .f32⟩
  | .hbm, ⟨27, _⟩ => ⟨S_, .f32⟩
  | .hbm, ⟨28, _⟩ => ⟨S4096x16, .f32⟩
  | .hbm, ⟨29, _⟩ => ⟨S4096x16, .f32⟩
  | .hbm, ⟨30, _⟩ => ⟨S16x512x1024, .f32⟩
  | .hbm, ⟨31, _⟩ => ⟨S4096x16x1024, .f32⟩
  | .hbm, ⟨32, _⟩ => ⟨S4096x16x1, .f32⟩
  | .hbm, ⟨33, _⟩ => ⟨S4096x16x1024, .f32⟩
  | .hbm, ⟨34, _⟩ => ⟨S4096x16x1024, .f32⟩
  | .hbm, ⟨35, _⟩ => ⟨S_, .f32⟩
  | .hbm, ⟨36, _⟩ => ⟨S4096x1024, .f32⟩
  | .hbm, ⟨37, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Places.lean ====
/-
# The places the exchange names

Four devices exchange tokens all-to-all. A device's four scratch buffers are each used in four blocks, and each of its four
semaphore arrays has one semaphore per peer. This module names the blocks, the semaphores and the cells, and shows
that the offsets the kernel computes from its device number are these places.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe

variable {F : FTy → Type} [FloatOps F]

/-! ## Peers

The peer at offset `d` of device `c` is `c + d`, counted around the four devices. -/

/-- Arithmetic of four devices around a ring. -/
theorem ne_add (c d : Fin 4) (hd : d ≠ 0) : c + d ≠ c := by revert c d; decide
theorem add_sub (c d : Fin 4) : c + d - c = d := by revert c d; decide
theorem sub_add (c d : Fin 4) : c - (c + d) = -d := by revert c d; decide
theorem add_sub_self (c d : Fin 4) : c + (d - c) = d := by revert c d; decide
theorem neg_eq_zero_iff (d : Fin 4) : -d = 0 ↔ d = 0 := by revert d; decide
theorem add_neg_self (c d : Fin 4) : c + d + -d = c := by revert c d; decide
theorem neg_add_self (c d : Fin 4) : c + -d + d = c := by revert c d; decide

/-- The six transfers and three signals address the peers the protocol names. -/
theorem dev1 (c : Dev nD) : (⟨k0_dev1 c, k0_dev1_lt c⟩ : Dev nD) = c + 1 := by revert c; decide
/-- The printed peers are the devices at offsets 2, 3 and 1. -/
theorem dev2 (c : Dev nD) : (⟨k0_dev2 c, k0_dev2_lt c⟩ : Dev nD) = c + 2 := by revert c; decide
theorem dev3 (c : Dev nD) : (⟨k0_dev3 c, k0_dev3_lt c⟩ : Dev nD) = c + 3 := by revert c; decide
theorem dev4 (c : Dev nD) : (⟨k0_dev4 c, k0_dev4_lt c⟩ : Dev nD) = c + 1 := by revert c; decide
theorem dev5 (c : Dev nD) : (⟨k0_dev5 c, k0_dev5_lt c⟩ : Dev nD) = c + 3 := by revert c; decide
theorem dev6 (c : Dev nD) : (⟨k0_dev6 c, k0_dev6_lt c⟩ : Dev nD) = c + 2 := by revert c; decide
theorem dev7 (c : Dev nD) : (⟨k0_dev7 c, k0_dev7_lt c⟩ : Dev nD) = c + 1 := by revert c; decide
theorem dev8 (c : Dev nD) : (⟨k0_dev8 c, k0_dev8_lt c⟩ : Dev nD) = c + 3 := by revert c; decide
theorem dev9 (c : Dev nD) : (⟨k0_dev9 c, k0_dev9_lt c⟩ : Dev nD) = c + 2 := by revert c; decide

/-! ## Offsets -/

/-- The offset constants the kernel adds to its device number, by the offset they stand for. -/
def offWord (d : Fin 4) : BitVec 32 := BitVec.ofNat 32 d.val

/-- The printed offsets, in closed form. -/
theorem off1 (c d : Fin 4) : k0_off1 c (offWord d) = ![(c + d).val] := by revert c d; decide
theorem off2 (c : Fin 4) : k0_off2 c = ![c.val] := by revert c; decide
theorem off3 (c : Fin 4) : k0_off3 c = ![c.val, 0, 0] := by revert c; decide
theorem off4 (c d : Fin 4) : k0_off4 c (offWord d) = ![(c + d).val, 0, 0] := by revert c d; decide
theorem off5 (c d : Fin 4) : k0_off5 c (offWord d) = ![(c + d).val, 0, 0] := by revert c d; decide
theorem off6 (c d : Fin 4) : k0_off6 c (offWord d) = ![(c + d).val, 0, 0] := by revert c d; decide
theorem off7 (c d : Fin 4) : k0_off7 c (offWord d) = ![(c + d).val, 0, 0] := by revert c d; decide

/-! ## The blocks -/

/-- The four scratch buffers: tokens to send, tokens received, results returned, results to send. -/
abbrev xsM : Memref sig .tc .vmem S2048x512 .bf16 := Memref.whole cc0_scratch0
abbrev rvM : Memref sig .tc .vmem S4x512x512 .bf16 := Memref.whole cc0_scratch1
abbrev ysM : Memref sig .tc .vmem S2048x1024 .bf16 := Memref.whole cc0_scratch2
abbrev stM : Memref sig .tc .vmem S4x512x1024 .bf16 := Memref.whole cc0_scratch3

/-- Each of the four blocks lies inside its buffer. -/
theorem xs_inb (d : Fin 4) : ∀ a, (![512 * d.val, 0] : Fin 2 → Nat) a + S512x512.size a ≤ S2048x512.size a := by
  intro a; fin_cases a <;> revert d <;> decide
theorem rv_inb (q : Fin 4) : ∀ a, (![q.val, 0, 0] : Fin 3 → Nat) a + S1x512x512.size a ≤ S4x512x512.size a := by
  intro a; fin_cases a <;> revert q <;> decide
theorem ys_inb (d : Fin 4) : ∀ a, (![512 * d.val, 0] : Fin 2 → Nat) a + S512x1024.size a ≤ S2048x1024.size a := by
  intro a; fin_cases a <;> revert d <;> decide
theorem st_inb (q : Fin 4) : ∀ a, (![q.val, 0, 0] : Fin 3 → Nat) a + S1x512x1024.size a ≤ S4x512x1024.size a := by
  intro a; fin_cases a <;> revert q <;> decide

/-- The blocks as rectangles. -/
abbrev xsR (d : Fin 4) : Rect S2048x512 := Rect.unit (s := S2048x512) ![512 * d.val, 0] S512x512.size (xs_inb d)
abbrev rvR (q : Fin 4) : Rect S4x512x512 := Rect.unit (s := S4x512x512) ![q.val, 0, 0] S1x512x512.size (rv_inb q)
abbrev ysR (d : Fin 4) : Rect S2048x1024 := Rect.unit (s := S2048x1024) ![512 * d.val, 0] S512x1024.size (ys_inb d)
abbrev stR (q : Fin 4) : Rect S4x512x1024 := Rect.unit (s := S4x512x1024) ![q.val, 0, 0] S1x512x1024.size (st_inb q)

/-- Rows `512 d …` of the gathered tokens: those to be sent to the peer at offset `d`. -/
abbrev xsB (d : Fin 4) : Memref sig .tc .vmem S512x512 .bf16 := xsM.slice (xsR d) (fun _ => rfl)
/-- The landing slab for tokens of device `q`. -/
abbrev rvB (q : Fin 4) : Memref sig .tc .vmem S1x512x512 .bf16 := rvM.slice (rvR q) (fun _ => rfl)
/-- Rows `512 d …` of the expert results: those coming back from the peer at offset `d`. -/
abbrev ysB (d : Fin 4) : Memref sig .tc .vmem S512x1024 .bf16 := ysM.slice (ysR d) (fun _ => rfl)
/-- The slab holding the expert results for the tokens of device `q`. -/
abbrev stB (q : Fin 4) : Memref sig .tc .vmem S1x512x1024 .bf16 := stM.slice (stR q) (fun _ => rfl)

/-- The landing slab and the result slab without their leading axis, as the transfers name them. -/
abbrev rvS (q : Fin 4) : Memref sig .tc .vmem S512x512 .bf16 := (rvB q).squeeze S512x512 squeezes_S1x512x512_S512x512
/-- The staged block with its unit axis dropped. -/
abbrev stS (q : Fin 4) : Memref sig .tc .vmem S512x1024 .bf16 := (stB q).squeeze S512x1024 squeezes_S1x512x1024_S512x1024

/-! ## Semaphores and cells -/

/-- The runtime's barrier semaphore. -/
abbrev barS : Sem sig := (SemArray.scalar (sig.barrier 0 rfl) : Sems sig S_).sem

/-- Semaphore `q` of the kernel's array `a` (0, 1: sent and received tokens; 2, 3: sent and received results). -/
def dsem (a q : Fin 4) : DmaSem sig := ⟨6 + 4 * a.val + q.val, by change _ < 22; omega⟩

/-- Which array and slot a semaphore is, if it is one of these. -/
def slotOf : SemLoc sig → Option (Fin 4 × Fin 4)
  | .dma k => if h : 6 ≤ k.val then some (⟨(k.val - 6) / 4, by have := k.isLt; change k.val < 22 at this; omega⟩, ⟨(k.val - 6) % 4, by omega⟩) else none
  | .reg _ => none

/-- A transfer semaphore is found again from its name. -/
theorem slotOf_dsem (a q : Fin 4) : slotOf (.dma (dsem a q)) = some (a, q) := by revert a q; decide
/-- The barrier is no transfer semaphore. -/
theorem slotOf_bar : slotOf (.reg barS) = none := rfl
/-- Transfer semaphores are told apart by their array and place. -/
theorem dsem_inj {a q a' q' : Fin 4} (h : dsem a q = dsem a' q') : a = a' ∧ q = q' := by
  have := slotOf_dsem a q; rw [h, slotOf_dsem] at this; cases this; exact ⟨rfl, rfl⟩

/-- The barrier cell of device `c`. -/
abbrev barCell (c : Dev nD) : GSem nD τ sig := ((c : Thread nD τ), .reg barS)
/-- The cell of device `c` at place `q` of the `a`-th array of transfer semaphores. -/
abbrev xCell (c : Dev nD) (a q : Fin 4) : GSem nD τ sig := ((c : Thread nD τ), .dma (dsem a q))

/-- The semaphore the kernel picks out of its array `a` at an offset. -/
theorem sem_at (a q : Fin 4) {off : Fin 1 → Nat} (h : off = ![q.val]) (h0 : 6 + 4 * a.val + S4.numel ≤ sig.nDmaSem)
    (hb : ∀ i, off i + S1.size i ≤ S4.size i) :
    (((SemArray.consecutive (6 + 4 * a.val) S4 h0 : DmaSems sig S4).slice (Rect.unit (s := S4) off S1.size hb)).squeeze S_ squeezes_S1_S_).sem = dsem a q := by
  subst h
  apply Fin.ext
  show 6 + 4 * a.val + (S4.rowMajor ((Rect.unit (s := S4) ![q.val] S1.size hb).emb (Shape.reshapeEquiv squeezes_S1_S_.numel_eq fun i => i.elim0))).val = _
  rw [Shape.rowMajor_val_one]
  generalize Shape.reshapeEquiv squeezes_S1_S_.numel_eq _ = x
  have h1 : (x 0).val < 1 := (x 0).isLt
  show 6 + 4 * a.val + (q.val + 1 * (x 0).val) = 6 + 4 * a.val + q.val
  omega

end Cert.Exchange

end
-- ==== Proof.Protocol.lean ====
/-
# The exchange as a protocol

What each block holds when it changes hands, and who pays what into which semaphore:

* a device's barrier semaphore receives one unit from each peer; the unit from the device `d` before it brings the two
  blocks of that device this one will write into — its landing slab and its result rows;
* an arrival semaphore receives one transfer, which brings the block it landed in, holding what was sent;
* a departure semaphore receives one transfer's completion, which brings the block it read back.
-/
module

public import proofs.«01_k».proof.Proof.Places

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are named by offsets. -/
abbrev UB : Type := URounds (GSem nD τ sig) (Fin 4)
/-- The records carried beside the memory: those of the pipeline, and those of the exchange. -/
abbrev UU : Type := UR sig nD τ × UB

local notation "𝕄" => MT nD τ sig Unit (Elt F) ℕ UU ℕ

/-- Where the records of the pipeline lie, -/
abbrev EP : Emb (UR sig nD τ) (MT nD τ sig Unit (Elt F) ℕ UU ℕ) := embL
/-- and those of the exchange. -/
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## What the kernel computes -/

section Values

/-- Device `c`'s operands as fetched. -/
def inX (c : Dev nD) : (cc0_stg0_0 : Ref sig .tc).ty.Contents (Elt F) := (win0_0.blk (0 : Fin 1)).view.read (Elt F) (m ((c : Thread nD τ).loc main_arg0))
/-- The staged router, routes, experts and shared expert. -/
def inRW (c : Dev nD) : (cc0_stg1_0 : Ref sig .tc).ty.Contents (Elt F) := (win0_1.blk (0 : Fin 1)).view.read (Elt F) (m ((c : Thread nD τ).loc main_arg1))
def inRt (c : Dev nD) : (cc0_stg2_0 : Ref sig .tc).ty.Contents (Elt F) := (win0_2.blk (0 : Fin 1)).view.read (Elt F) (m ((c : Thread nD τ).loc main_arg2))
def inEW (c : Dev nD) : (cc0_stg3_0 : Ref sig .tc).ty.Contents (Elt F) := (win0_3.blk (0 : Fin 1)).view.read (Elt F) (m ((c : Thread nD τ).loc main_arg3))
def inSW (c : Dev nD) : (cc0_stg4_0 : Ref sig .tc).ty.Contents (Elt F) := (win0_4.blk (0 : Fin 1)).view.read (Elt F) (m ((c : Thread nD τ).loc main_arg4))

/-- The device number as the kernel computes with it. -/
def me (c : Dev nD) : BitVec 32 := Scalar.remsi (Scalar.divsi (Dev.word c) 1#32) 4#32

/-- Each token's place among the earlier tokens of its expert. -/
def place (c : Dev nD) : FVec F S1024x1 .f32 :=
  k0_pay5 (k0_pay3 (inRt m c)) (iota .tc S1024x1024 32 [0] iota_S1024x1024_d0_w32) (iota .tc S1024x1024 32 [1] iota_S1024x1024_d1_w32)

/-- The 0/1 matrix placing tokens into slots, and the same weighted by the gate. -/
def slots (c : Dev nD) : FVec F S1024x2048 .bf16 :=
  k0_pay10 (k0_pay2 (inRt m c)) (place m c) (Scalar.select (Scalar.cmpi .eq 4#32 0#32) 1#32 4#32)
    (k0_pay6 (me c) (k0_pay2 (inRt m c))) (k0_pay7 (me c) (k0_pay2 (inRt m c))) (k0_pay8 (me c) (k0_pay2 (inRt m c))) k0_pay9
/-- The one-hot table of the slots, each row scaled by its token's gate. -/
def gated (c : Dev nD) : FVec F S1024x2048 .bf16 :=
  k0_pay11 (k0_pay2 (inRt m c)) (k0_pay4 (inX m c) (inRW m c) (inRt m c)) (place m c) (Scalar.select (Scalar.cmpi .eq 4#32 0#32) 1#32 4#32)
    (k0_pay6 (me c) (k0_pay2 (inRt m c))) (k0_pay7 (me c) (k0_pay2 (inRt m c))) (k0_pay8 (me c) (k0_pay2 (inRt m c))) k0_pay9

/-- The gated tokens device `c` gathers for the peer at offset `d`. -/
def sent (c : Dev nD) (d : Fin 4) : Vec F S512x512 .bf16 :=
  match d with
  | 0 => k0_pay17 (k0_pay1 (inX m c)) (gated m c)
  | 1 => k0_pay12 (k0_pay1 (inX m c)) (gated m c)
  | 2 => k0_pay15 (k0_pay1 (inX m c)) (gated m c)
  | 3 => k0_pay14 (k0_pay13 (k0_pay1 (inX m c)) (gated m c))

/-- What device `c` holds in its landing slab `q`: what `q` sent it. -/
def landed (c q : Dev nD) : Vec F S1x512x512 .bf16 :=
  fun i => sent m q (c - q) ((Shape.reshapeEquiv squeezes_S1x512x512_S512x512.numel_eq).symm i)

/-- Device `c`'s experts applied to the tokens of `q`. -/
def worked (c q : Dev nD) : Vec F S1x512x1024 .bf16 := k0_pay30 (k0_pay16 (inEW m c)) (landed m c q)

/-- The result rows that come back to device `c` from the peer at offset `d`; at offset zero its own experts' results. -/
def back (c : Dev nD) (d : Fin 4) : Vec F S512x1024 .bf16 :=
  if d = 0 then k0_pay18 (inEW m c) (sent m c 0)
  else fun i => worked m (c + d) c (Shape.reshapeEquiv squeezes_S1x512x1024_S512x1024.numel_eq i)

/-- The block device `c` returns. -/
def result (c : Dev nD) : (cc0_stg5_0 : Ref sig .tc).ty.Contents (Elt F) :=
  k0_pay33 (slots m c)
    (k0_pay32 (slots m c)
      (k0_pay31 (slots m c) (k0_pay21 (k0_pay19 (k0_pay1 (inX m c)) (inSW m c)) (k0_pay20 (slots m c)) (back m c 0)) (back m c 1))
      (back m c 3))
    (back m c 2)

/-- The three printed forms of the experts' product are one function. -/
theorem worked_first (w : FVec F S4x512x1024 .bf16) (v : Vec F S1x512x512 .bf16) :
    k0_pay28 (k0_pay23 w v) (k0_pay24 w v) (k0_pay25 w v) (k0_pay26 v) (k0_pay27 w) (constant S128x1024 .f32 0x00000000#32) = k0_pay30 w v := rfl
/-- The printed products of a received block are the same text for every peer. -/
theorem worked_second (w : FVec F S4x512x1024 .bf16) (v : Vec F S1x512x512 .bf16) : k0_pay29 w v = k0_pay30 w v := rfl

end Values

/-! ## Holding a block -/

/-- Device `c` holds the block at some contents. -/
def some_ (c : Dev nD) {sp : Space} {s : Shape} {e : EltTy} (b : Memref sig .tc sp s e) : sProp 𝕄 :=
  iprop(∃ f, b.view.loc (c : Thread nD τ) ↦[b.view.set]{fullShare} f)
/-- Device `c` holds the block, which reads `X`. -/
def held (c : Dev nD) {sp : Space} {s : Shape} {e : EltTy} (b : Memref sig .tc sp s e) (X : s.Idx → Elt F e) : sProp 𝕄 :=
  iprop(∃ f, ⌜b.view.read (Elt F) f = X⌝ ∗ (b.view.loc (c : Thread nD τ) ↦[b.view.set]{fullShare} f))

omit [FloatOps F] in
instance some_storable (c : Dev nD) {sp : Space} {s : Shape} {e : EltTy} (b : Memref sig .tc sp s e) :
    BI.Storable (upEmb : UEmb _ 𝕄) (some_ (F := F) c b) := by unfold some_; infer_instance
omit [FloatOps F] in
instance held_storable (c : Dev nD) {sp : Space} {s : Shape} {e : EltTy} (b : Memref sig .tc sp s e) (X : s.Idx → Elt F e) :
    BI.Storable (upEmb : UEmb _ 𝕄) (held c b X) := by unfold held; infer_instance

omit [FloatOps F] in
/-- A block with known contents is one with unknown contents. -/
theorem held_some (c : Dev nD) {sp : Space} {s : Shape} {e : EltTy} (b : Memref sig .tc sp s e) (X : s.Idx → Elt F e) :
    (held c b X : sProp 𝕄) ⊢ some_ c b := by
  unfold held some_; iintro ⟨%f, -, H⟩; iexists f; iexact H

/-! ## Payloads -/

/-- What the unit from the device `d` before `c` brings: that device's landing slab for `c` and the rows for `c`'s results. -/
def ready (c : Dev nD) (d : Fin 4) : sProp 𝕄 := iprop(some_ (c + -d) (rvB c) ∗ some_ (c + -d) (ysB d))

/-- What a transfer into semaphore `q` of array `a` brings its device. -/
def brought (c : Dev nD) (a q : Fin 4) : sProp 𝕄 :=
  match a with
  | 0 => some_ c (xsB (q - c))
  | 1 => held c (rvB q) (landed m c q)
  | 2 => some_ c (stB q)
  | 3 => held c (ysB (q - c)) (back m c (q - c))

/-- Credits of a token block's and a result block's transfer. -/
abbrev NX : ℕ := (rvS 0).view.dmaCredit
/-- The credit of one block of results. -/
abbrev NY : ℕ := (ysB 0).view.dmaCredit
/-- The credit of one transfer onto a cell of the `a`-th array. -/
def credOf (a : Fin 4) : ℕ := if a = 0 ∨ a = 1 then NX else NY
/-- It is not zero. -/
theorem credOf_pos (a : Fin 4) : 0 < credOf a := by
  unfold credOf; split
  · exact View.dmaCredit_pos _ (by decide)
  · exact View.dmaCredit_pos _ (by decide)

/-- What a duty hands over with its signal or landing. -/
def payOf (c : Dev nD) (s : SemLoc sig) (d : Fin 4) : sProp 𝕄 :=
  if s = .reg barS then ready c d
  else match slotOf s with
    | some (a, q) => brought m c a q
    | none => iprop(emp)

/-- How much a duty adds to its cell. -/
def amtOf (s : SemLoc sig) : ℕ :=
  match slotOf s with
  | some (a, _) => credOf a
  | none => 1

/-- The duties of a cell: three at a barrier, one at a transfer cell for a peer, none at the place of the device itself. -/
def dutOf (c : Dev nD) (s : SemLoc sig) : Finset (Fin 4) :=
  if s = .reg barS then {1, 2, 3}
  else match slotOf s with
    | some (_, q) => if q = c then ∅ else {0}
    | none => ∅

/-- One round. -/
def sched : Rounds.Schedule (GSem nD τ sig) (Fin 4) 𝕄 where
  duties g r := if r = 0 ∧ g.1.2 = .tc then dutOf g.1.1 g.2 else ∅
  unitless _ := False
  amount g _ _ := amtOf g.2
  payload g _ d := payOf m g.1.1 g.2 d
  amount_pos g _ _ _ := by
    show 0 < amtOf g.2
    unfold amtOf; split
    · exact credOf_pos _
    · exact Nat.one_pos

instance sched_storable (g : GSem nD τ sig) (r : ℕ) (d : Fin 4) : BI.Storable (upEmb : UEmb _ 𝕄) ((sched m).payload g r d) := by
  show BI.Storable upEmb (payOf m g.1.1 g.2 d)
  unfold payOf ready
  split
  · infer_instance
  · split
    · next a q _ => unfold brought; split <;> infer_instance
    · infer_instance

section Tables
variable (c : Dev nD)

/-- A transfer semaphore is not the barrier. -/
theorem dma_ne_bar (k : DmaSem sig) : (SemLoc.dma k : SemLoc sig) ≠ .reg barS := fun h => by cases h

/-- The duties of each kind of cell, read from the schedule. -/
theorem duties_bar : (sched m).duties (barCell c) 0 = {1, 2, 3} := by
  dsimp only [sched]; rw [if_pos ⟨rfl, rfl⟩]; unfold dutOf; exact if_pos rfl
theorem duties_x (a q : Fin 4) : (sched m).duties (xCell c a q) 0 = if q = c then ∅ else {0} := by
  dsimp only [sched]; rw [if_pos ⟨rfl, rfl⟩]; unfold dutOf; rw [if_neg (dma_ne_bar _), slotOf_dsem]
theorem duties_own (a : Fin 4) : ∀ r, 0 ≤ r → (sched m).duties (xCell c a c) r = ∅ := fun r _ => by
  rcases r with _ | r
  · rw [duties_x, if_pos rfl]
  · dsimp only [sched]; exact if_neg fun h => absurd h.1 (Nat.succ_ne_zero r)
theorem duties_peer (a d : Fin 4) (hd : d ≠ 0) : (sched m).duties (xCell c a (c + d)) 0 = {0} := by
  rw [duties_x, if_neg (ne_add c d hd)]
theorem duties_from (a d : Fin 4) (hd : d ≠ 0) : (sched m).duties (xCell (c + d) a c) 0 = {0} := by
  rw [duties_x, if_neg fun h => ne_add c d hd h.symm]
theorem duties_later (g : GSem nD τ sig) : ∀ r, 1 ≤ r → (sched m).duties g r = ∅ :=
  fun r hr => by dsimp only [sched]; exact if_neg fun h => by omega

/-- Their amounts. -/
theorem amount_bar (d : Fin 4) : (sched m).amount (barCell c) 0 d = 1 := rfl
theorem amount_x (a q d : Fin 4) : (sched m).amount (xCell c a q) 0 d = credOf a := by
  show amtOf (.dma (dsem a q)) = _; unfold amtOf; rw [slotOf_dsem]

/-- What a wait on each kind of cell expects. -/
theorem expect_bar : (sched m).expect (barCell c) 0 = 3 := by
  unfold Schedule.expect Schedule.amountOf; rw [duties_bar]; rfl
theorem expect_x (a d : Fin 4) (hd : d ≠ 0) : (sched m).expect (xCell c a (c + d)) 0 = credOf a := by
  unfold Schedule.expect Schedule.amountOf; rw [duties_peer m c a d hd, Finset.sum_singleton, amount_x]

/-- What each kind of cell hands over. -/
theorem payload_bar (d : Fin 4) : (sched m).payload (barCell c) 0 d = ready c d := by
  dsimp only [sched]; unfold payOf; exact if_pos rfl
theorem payload_x (a q d : Fin 4) : (sched m).payload (xCell c a q) 0 d = brought m c a q := by
  show payOf m c (.dma (dsem a q)) d = _; unfold payOf; rw [if_neg (dma_ne_bar _), slotOf_dsem]

/-- All that a barrier hands over, written out. -/
theorem rest_bar : bigSep ((sched m).duties (barCell c) 0 \ ∅) (fun d => (sched m).payload (barCell c) 0 d)
    = iprop(ready c 1 ∗ ready c 2 ∗ ready c 3) := by
  rw [Finset.sdiff_empty, duties_bar, bigSep_eq_bigSepL_of_eq [1, 2, 3] (by decide) (by decide), bigSepL_cons_cons, bigSepL_cons_cons, bigSepL_singleton,
    payload_bar, payload_bar, payload_bar]
  rfl
/-- All that a transfer cell hands over. -/
theorem rest_x (a d : Fin 4) (hd : d ≠ 0) :
    bigSep ((sched m).duties (xCell c a (c + d)) 0 \ ∅) (fun d' => (sched m).payload (xCell c a (c + d)) 0 d') = brought m c a (c + d) := by
  rw [Finset.sdiff_empty, duties_peer m c a d hd, bigSep_singleton, payload_x]

end Tables

end Cert.Exchange

end
-- ==== Proof.Steps.lean ====
/-
# One rule per effect of the kernel

What a device owes, the order of the semaphores that rules out waiting in a circle, and, for each kind of effect
(a load, a store, a signal, a transfer, a wait), the rule that steps over it in terms of the blocks held.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop of the body needs a variant. -/
abbrev 𝒱₀ : Variants := Variants.none

/-! ## What a device owes -/

/-- A list of payments still to make, each a cell and an amount, the first to be made at the head. -/
def owing : List (GSem nD τ sig × ℕ) → CellTallies nD τ sig Unit
  | [] => 0
  | x :: l => owing l + tallyAt x.1 () x.2

/-- A cell that is owed something has an entry in the list of debts. -/
theorem owing_pos {l : List (GSem nD τ sig × ℕ)} {g : GSem nD τ sig} {u : Unit} (h : 0 < owing l g u) : ∃ x ∈ l, g = x.1 := by
  induction l with
  | nil => exact absurd h (Nat.lt_irrefl 0)
  | cons x l ih =>
    unfold owing at h
    rw [Pi.add_apply, Finsupp.add_apply, tallyAt_apply] at h
    by_cases hx : g = x.1
    · exact ⟨x, List.mem_cons_self, hx⟩
    · rw [if_neg fun h' => hx h'.1, Nat.add_zero] at h
      obtain ⟨y, hy, hg⟩ := ih h
      exact ⟨y, List.mem_cons_of_mem _ hy, hg⟩

/-- What device `c` owes at launch, in the order it pays: a unit to each peer's barrier, the tokens, the results. -/
def debtY (c : Dev nD) : List (GSem nD τ sig × ℕ) := [(xCell (c + 1) 3 c, NY), (xCell (c + 3) 3 c, NY), (xCell (c + 2) 3 c, NY)]
/-- What device `c` owes from the first round on. -/
def debtX (c : Dev nD) : List (GSem nD τ sig × ℕ) := (xCell (c + 1) 1 c, NX) :: (xCell (c + 3) 1 c, NX) :: (xCell (c + 2) 1 c, NX) :: debtY c
/-- What device `c` owes at the start: three signals, three blocks of tokens, three blocks of results. -/
def debt (c : Dev nD) : List (GSem nD τ sig × ℕ) := (barCell (c + 1), 1) :: (barCell (c + 2), 1) :: (barCell (c + 3), 1) :: debtX c

/-- Only cells of a tensor core carry a level. -/
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers come before arrivals of tokens, those before arrivals of results; everything else comes first. -/
def levOf (s : SemLoc sig) : ℕ :=
  if s = .reg barS then 1 else match slotOf s with
    | some (1, _) => 2
    | some (3, _) => 3
    | _ => 0
/-- The level of a cell. -/
def lv (g : GSem nD τ sig) (_ : Unit) : ℕ := levOf g.2

/-- The levels: the barrier, then the first round, then the second. -/
theorem levOf_bar : levOf (.reg barS) = 1 := if_pos rfl
theorem levOf_x (q : Fin 4) : levOf (.dma (dsem 1 q)) = 2 := by unfold levOf; rw [if_neg (dma_ne_bar _), slotOf_dsem]; rfl
theorem levOf_y (q : Fin 4) : levOf (.dma (dsem 3 q)) = 3 := by unfold levOf; rw [if_neg (dma_ne_bar _), slotOf_dsem]; rfl

/-- A device may wait while all it owes lies higher. -/
theorem mayWait (c : Dev nD) (s : SemLoc sig) (l : List (GSem nD τ sig × ℕ)) (h : ∀ x ∈ l, x.1.1.2 = .tc ∧ levOf s < levOf x.1.2) :
    (levAts L lv : sProp 𝕄) ⊢ MayWait (c : Thread nD τ) s () (owing l) :=
  MayOwe.of_cut (L := L) (lev := lv) (levOf s) (fun p hp => by rw [Finset.mem_singleton.mp hp, L_tc]; exact Finset.mem_singleton_self _)
    (fun g u hg => by
      obtain ⟨x, hx, rfl⟩ := owing_pos hg
      unfold L; rw [if_pos (h x hx).1]; exact Finset.mem_singleton_self _)
    (fun p hp => by rw [Finset.mem_singleton.mp hp]; exact le_rfl)
    (fun g u hg => by
      obtain ⟨x, hx, rfl⟩ := owing_pos hg
      exact (h x hx).2)

/-- The device owes `l`, whatever it has waited for so far. -/
def owesL (c : Dev nD) (l : List (GSem nD τ sig × ℕ)) : sProp 𝕄 := iprop(∃ W, owes (c : Thread nD τ) (owing l) W)

/-! ## The shared records -/

/-- A device's cells: its barrier, and the sixteen of the kernel's arrays. -/
abbrev KI : Type := Unit ⊕ (Fin 4 × Fin 4)
/-- The cell that a name stands for. -/
abbrev kcell (ck : Dev nD × KI) : GSem nD τ sig := match ck.2 with
  | .inl _ => barCell ck.1
  | .inr (a, q) => xCell ck.1 a q

/-- Every cell's invariant, and that every cell has reached its round. -/
def records (K : Dev nD × KI → ℕ) : sProp 𝕄 :=
  iprop((bigSep Finset.univ fun ck : Dev nD × KI => cellInv ER (sched m) (K ck) (kcell ck))
    ∗ bigSep Finset.univ fun ck : Dev nD × KI => reached ER (kcell ck) 0)

instance records_persistent (K : Dev nD × KI → ℕ) : BI.Persistent (records m K) := by unfold records; infer_instance

/-- The shared records hold the invariant of every cell, -/
theorem inv_at (K : Dev nD × KI → ℕ) (ck : Dev nD × KI) : records m K ⊢ cellInv ER (sched m) (K ck) (kcell ck) := by
  unfold records; iintro ⟨H, -⟩; iapply (show (bigSep Finset.univ fun ck : Dev nD × KI => cellInv ER (sched m) (K ck) (kcell ck)) ⊢ _ from bigSep_elim (Finset.mem_univ ck)) $$ H
/-- and that its first round is reached. -/
theorem reached_at (K : Dev nD × KI → ℕ) (ck : Dev nD × KI) : records m K ⊢ reached ER (kcell ck) 0 := by
  unfold records; iintro ⟨-, H⟩; iapply (show (bigSep Finset.univ fun ck : Dev nD × KI => (reached ER (kcell ck) 0 : sProp 𝕄)) ⊢ _ from bigSep_elim (Finset.mem_univ ck)) $$ H

/-! ## Loads and stores -/

section Local
variable {α : Type} (c : Dev nD)

/-- A load of a block held at known contents. -/
theorem step_load {s : Shape} {e : EltTy} (M : Memref sig .tc .vmem s e) {off off' size : Fin s.rank → Nat} (h : off = off')
    (hb : ∀ a, off a + size a ≤ s.size a) (hb' : ∀ a, off' a + size a ≤ s.size a) {hl : M.view.LoadsAt (Rect.unit off size hb).toLoadRect}
    {k : ((Rect.unit off size hb).shape.Idx → Elt F e) → Prog (TpuEff nD τ sig (Elt F) Λ₀ .tc) α} {Q : α → sProp 𝕄}
    (X : (Rect.unit off size hb).shape.Idx → Elt F e) :
    (held c (M.slice (Rect.unit off' size hb') (fun _ => rfl)) X : sProp 𝕄)
      ⊢ iprop((held c (M.slice (Rect.unit off' size hb') (fun _ => rfl)) X -∗ wp frame (wpE (defs₀ (F := F)) 𝒱₀ ((c : Dev nD) : Thread nD τ) none) Set.univ (k X) Q)
        -∗ wp frame (wpE (defs₀ (F := F)) 𝒱₀ ((c : Dev nD) : Thread nD τ) none) Set.univ (.op (.load M (Rect.unit off size hb).toLoadRect hl) k) Q) := by
  subst h
  unfold held
  iintro ⟨%f, %hf, H⟩ Hk
  iapply (wp_load_rect 𝒱₀ (c : Thread nD τ) none Set.univ (m := M) (r := Rect.unit off size hb) (f := f) (Finset.Subset.refl _)) $$ H
  iintro H
  subst hf
  iapply Hk
  iexists f; isplitr
  · ipureintro; rfl
  iexact H

/-- A store over a whole block. -/
theorem step_store {s : Shape} {e : EltTy} (M : Memref sig .tc .vmem s e) {off off' size : Fin s.rank → Nat} (h : off = off')
    (hb : ∀ a, off a + size a ≤ s.size a) (hb' : ∀ a, off' a + size a ≤ s.size a) {w : (Rect.unit off size hb).shape.Idx → Elt F e}
    {hx : (M.access (Rect.unit off size hb)).Stores Finset.univ} {hm : Finset.univ = Finset.univ ∨ ∀ a, (Rect.unit off size hb).stride a = 1}
    {k : PUnit → Prog (TpuEff nD τ sig (Elt F) Λ₀ .tc) α} {Q : α → sProp 𝕄} :
    (some_ c (M.slice (Rect.unit off' size hb') (fun _ => rfl)) : sProp 𝕄)
      ⊢ iprop((held c (M.slice (Rect.unit off' size hb') (fun _ => rfl)) w -∗ wp frame (wpE (defs₀ (F := F)) 𝒱₀ ((c : Dev nD) : Thread nD τ) none) Set.univ (k ⟨⟩) Q)
        -∗ wp frame (wpE (defs₀ (F := F)) 𝒱₀ ((c : Dev nD) : Thread nD τ) none) Set.univ (.op (.store M (Rect.unit off size hb) w Finset.univ hx hm) k) Q) := by
  subst h
  unfold held some_
  iintro ⟨%f, H⟩ Hk
  iapply (wp_store 𝒱₀ (c : Thread nD τ) none Set.univ (m := M) (r := Rect.unit off size hb) (w := w) (Mk := Finset.univ) (f := f)
    (S := (M.slice (Rect.unit off size hb') (fun _ => rfl)).view.set)
    (by rw [View.setOn_univ])) $$ H
  iintro H
  iapply Hk
  iexists _; isplitr
  · ipureintro; exact View.read_write_univ (Val := Elt F) (v := M.access (Rect.unit off size hb)) f w
  iexact H

/-- A load over a block at unknown contents, followed by anything that does not use what it read. -/
theorem step_peek {s : Shape} {e : EltTy} (M : Memref sig .tc .vmem s e) {off off' size : Fin s.rank → Nat} (h : off = off')
    (hb : ∀ a, off a + size a ≤ s.size a) (hb' : ∀ a, off' a + size a ≤ s.size a) {hl : M.view.LoadsAt (Rect.unit off size hb).toLoadRect}
    {p : Prog (TpuEff nD τ sig (Elt F) Λ₀ .tc) α} {Q : α → sProp 𝕄} :
    (some_ c (M.slice (Rect.unit off' size hb') (fun _ => rfl)) : sProp 𝕄)
      ⊢ iprop((some_ c (M.slice (Rect.unit off' size hb') (fun _ => rfl)) -∗ wp frame (wpE (defs₀ (F := F)) 𝒱₀ ((c : Dev nD) : Thread nD τ) none) Set.univ p Q)
        -∗ wp frame (wpE (defs₀ (F := F)) 𝒱₀ ((c : Dev nD) : Thread nD τ) none) Set.univ (.op (.load M (Rect.unit off size hb).toLoadRect hl) fun _ => p) Q) := by
  subst h
  unfold some_
  iintro ⟨%f, H⟩ Hk
  iapply (wp_load_rect 𝒱₀ (c : Thread nD τ) none Set.univ (m := M) (r := Rect.unit off size hb) (f := f) (Finset.Subset.refl _)) $$ H
  iintro H
  iapply Hk
  iexists f; iexact H

end Local

/-! ## Transfers, signals, waits -/

section Remote
variable {α : Type} (K : Dev nD × KI → ℕ) (c d : Fin 4) (hd : d ≠ 0)

/-- An offset that is not zero is one of three. -/
theorem mem_offsets {d : Fin 4} (hd : d ≠ 0) : d ∈ ({1, 2, 3} : Finset (Fin 4)) := by revert d; decide

include hd in
/-- A signal to the peer at offset `d`: it hands over this device's landing slab and result rows for that peer. -/
theorem step_signal {n : Dev nD} (hn : n = c + d) {l : List (GSem nD τ sig × ℕ)} {k : PUnit → Prog (TpuEff nD τ sig (Elt F) Λ₀ .tc) α} {Q : α → sProp 𝕄} :
    iprop(records m K ∗ owesL c ((barCell (c + d), 1) :: l) ∗ dutyTok ER (barCell (c + d)) 0 d ∗ some_ c (rvB (c + d)) ∗ some_ c (ysB d))
      ⊢ iprop((owesL c l -∗ wp frame (wpE (defs₀ (F := F)) 𝒱₀ ((c : Dev nD) : Thread nD τ) none) Set.univ (k ⟨⟩) Q) -∗ wp frame (wpE (defs₀ (F := F)) 𝒱₀ ((c : Dev nD) : Thread nD τ) none) Set.univ (.op (.semSignal (n, .tc) barS (1#32 : BitVec 32).toInt) k) Q) := by
  subst hn
  unfold owesL
  iintro ⟨#HR, ⟨%W, HO⟩, Ht, Hr, Hy⟩ Hk
  iapply (Rounds.wp_signal 𝒱₀ ER (sched m) (c : Thread nD τ) none (dst := ((c + d : Dev nD) : Thread nD τ)) (κ := K (c + d, .inl ()))
      (d := d) (by rw [duties_bar]; exact mem_offsets hd) ((amount_bar m (c + d) d).trans (by decide)) () (owing l) rfl) $$ [HO Ht Hr Hy]
  · isplitr; · iapply (inv_at m K (c + d, .inl ())); iexact HR
    isplitl [HO]; · iexact HO
    isplitl [Ht]; · iexact Ht
    isplitl [Hr Hy]
    · rw [payload_bar]; unfold ready; rw [add_neg_self]
      isplitl [Hr] <;> iassumption
    · iapply (reached_at m K (c + d, .inl ())); iexact HR
  iintro HO
  iapply Hk
  iexists W; iexact HO

/-- The wait for all three peers: each has handed over the two blocks this device will write. -/
theorem step_barrier {l : List (GSem nD τ sig × ℕ)} (hl : ∀ x ∈ l, x.1.1.2 = .tc ∧ levOf (.reg barS) < levOf x.1.2)
    {k : PUnit → Prog (TpuEff nD τ sig (Elt F) Λ₀ .tc) α} {Q : α → sProp 𝕄} :
    iprop(records m K ∗ owesL c l ∗ levAts L lv ∗ cred (tallyAt (barCell c) () 3) ∗ atPos ER (barCell c) 0 ∅ 0)
      ⊢ iprop(((owesL c l ∗ atPos ER (barCell c) 1 ∅ 0 ∗ ready c 1 ∗ ready c 2 ∗ ready c 3) -∗ wp frame (wpE (defs₀ (F := F)) 𝒱₀ ((c : Dev nD) : Thread nD τ) none) Set.univ (k ⟨⟩) Q)
        -∗ wp frame (wpE (defs₀ (F := F)) 𝒱₀ ((c : Dev nD) : Thread nD τ) none) Set.univ (.op (.semWait barS (3#32 : BitVec 32).toInt) k) Q) := by
  unfold owesL
  iintro ⟨#HR, ⟨%W, HO⟩, #Hlev, Hc, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := owing l) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait c _ l hl); iexact Hlev
    iexact Hat
  iintro ⟨HO, Hat, -, Hp⟩
  ihave Hp := (Entails.of_eq (rest_bar m c)) $$ Hp
  iapply Hk
  isplitl [HO]; · iexists _; iexact HO
  isplitl [Hat]; · iexact Hat
  iexact Hp

include hd in
/-- The wait for a transfer of semaphore array `a` with the peer at offset `d`. -/
theorem step_wait (a : Fin 4) {sS : DmaSem sig} (hS : sS = dsem a (c + d)) {l : List (GSem nD τ sig × ℕ)}
    (hl : ∀ x ∈ l, x.1.1.2 = .tc ∧ levOf (.dma (dsem a (c + d))) < levOf x.1.2)
    {s s' : Shape} {e e' : EltTy} {src : Memref sig .tc .vmem s' e'} {dst : Memref sig .tc .vmem s e} {hsrc : src.view.WordExact} {hdst : dst.view.WordExact}
    {k : PUnit → Prog (TpuEff nD τ sig (Elt F) Λ₀ .tc) α} {Q : α → sProp 𝕄} :
    iprop(⌜dst.view.dmaCredit = credOf a⌝ ∗ records m K ∗ owesL c l ∗ levAts L lv ∗ cred (tallyAt (xCell c a (c + d)) () (credOf a))
        ∗ atPos ER (xCell c a (c + d)) 0 ∅ 0)
      ⊢ iprop(((owesL c l ∗ atPos ER (xCell c a (c + d)) 1 ∅ 0 ∗ brought m c a (c + d)) -∗ wp frame (wpE (defs₀ (F := F)) 𝒱₀ ((c : Dev nD) : Thread nD τ) none) Set.univ (k ⟨⟩) Q)
        -∗ wp frame (wpE (defs₀ (F := F)) 𝒱₀ ((c : Dev nD) : Thread nD τ) none) Set.univ (.op (.waitDma2 sS src dst hsrc hdst) k) Q) := by
  subst hS
  unfold owesL
  iintro ⟨%hN, #HR, ⟨%W, HO⟩, #Hlev, Hc, Hat⟩ Hk
  iapply (Rounds.wp_wait_rest_token 𝒱₀ ER (sched m) (c : Thread nD τ) none (κ := K (c, .inr (a, c + d)))
      (wpE_waitDma2_eq 𝒱₀ (c : Thread nD τ) none Set.univ) (Set.mem_univ _) () (O := owing l) (W := W) (R := 0) (m := 0) (T := ∅)
      (by rw [Nat.zero_add, expect_x m c a d hd]; exact hN)) $$ [Hc HO Hat]
  · isplitr; · iapply (inv_at m K (c, .inr (a, c + d))); iexact HR
    isplitl [Hc]; · rw [hN]; iexact Hc
    isplitl [HO]; · iexact HO
    isplitr; · iapply (mayWait c _ l hl); iexact Hlev
    iexact Hat
  iintro ⟨HO, Hat, -, Hp⟩
  ihave Hp := (Entails.of_eq (rest_x m c a d hd)) $$ Hp
  iapply Hk
  isplitl [HO]; · iexists _; iexact HO
  isplitl [Hat]; · iexact Hat
  iexact Hp

include hd in
/-- The transfer of gathered tokens to the peer at offset `d`. -/
theorem step_send_x {n : Dev nD} (hn : n = c + d) {src dst : Memref sig .tc .vmem S512x512 .bf16} (hs : src = xsB d) (ht : dst = rvS c)
    {sS sR : DmaSem sig} (hS : sS = dsem 0 (c + d)) (hR : sR = dsem 1 c) {hsc : dst.view.ref.isScScratch = false}
    {hsrc : src.view.WordExact} {hdst : dst.view.WordExact} {hsem : DmaTarget.Typed .vmem (.dma sR) (.remote (Dev.tc n : Thread nD τ) dst (.dma sS) hsc)}
    {l : List (GSem nD τ sig × ℕ)} {k : PUnit → Prog (TpuEff nD τ sig (Elt F) Λ₀ .tc) α} {Q : α → sProp 𝕄} :
    iprop(records m K ∗ owesL c ((xCell (c + d) 1 c, NX) :: l) ∗ held c (xsB d) (sent m c d) ∗ some_ (c + d) (rvB c)
        ∗ dutyTok ER (xCell c 0 (c + d)) 0 0 ∗ dutyTok ER (xCell (c + d) 1 c) 0 0)
      ⊢ iprop(((owesL c l ∗ cred (tallyAt (xCell c 0 (c + d)) () (credOf 0))) -∗ wp frame (wpE (defs₀ (F := F)) 𝒱₀ ((c : Dev nD) : Thread nD τ) none) Set.univ (k ⟨⟩) Q)
        -∗ wp frame (wpE (defs₀ (F := F)) 𝒱₀ ((c : Dev nD) : Thread nD τ) none) Set.univ (.op (.enqueueDma src (.remote (Dev.tc n : Thread nD τ) dst (.dma sS) hsc) (.dma sR) hsrc hdst hsem) k) Q) := by
  subst hn hs ht hS hR
  unfold owesL held some_
  iintro ⟨#HR, ⟨%W, HO⟩, ⟨%fs, %hfs, Hs⟩, ⟨%fd, Hd⟩, Ht1, Ht2⟩ Hk
  iapply (Rounds.wp_send_pointsTo 𝒱₀ ER (sched m) (c : Thread nD τ) none (κ₁ := K (c, .inr (0, c + d))) (κ₂ := K (c + d, .inr (1, c)))
    (src := xsB d) (dst := rvS c) (c' := ((c + d : Dev nD) : Thread nD τ)) (q := fullShare) (fs := fs) (fd := fd)
    (r₁ := 0) (r₂ := 0) (d₁ := 0) (d₂ := 0)
    (by rw [duties_peer m c 0 d hd]; exact Finset.mem_singleton_self _) (by rw [duties_from m c 1 d hd]; exact Finset.mem_singleton_self _)
    () () NX rfl (amount_x m c 0 (c + d) 0) (amount_x m (c + d) 1 c 0) (owing l) rfl (W := W)
    (by rw [payload_x]; show _ ⊢ some_ c (xsB (c + d - c)); rw [add_sub]; unfold some_; iintro H; iexists fs; iexact H)
    (by
      rw [payload_x]; show _ ⊢ held (c + d) (rvB c) (landed m (c + d) c)
      unfold held; iintro H; iexists _; isplitr; rotate_left
      · rw [View.set_reshape]; iexact H
      ipureintro
      unfold landed; rw [add_sub, ← hfs]
      refine funext fun i => ?_
      have h := congrFun (View.read_write_univ (Val := Elt F) (v := (rvS c).view) fd ((xsB d).view.read (Elt F) fs))
        ((Shape.reshapeEquiv squeezes_S1x512x512_S512x512.numel_eq).symm i)
      rw [← h]
      show _ = (rvB c).view.read (Elt F) _ (Shape.reshapeEquiv _ _)
      rw [Equiv.apply_symm_apply])) $$ [HO Hs Hd Ht1 Ht2]
  · isplitr; · iapply (inv_at m K (c, .inr (0, c + d))); iexact HR
    isplitr; · iapply (inv_at m K (c + d, .inr (1, c))); iexact HR
    isplitl [Hs]; · iexact Hs
    isplitl [Hd]; · rw [View.set_reshape]; iexact Hd
    isplitl [HO]; · iexact HO
    isplitl [Ht1]; · iexact Ht1
    isplitr; · iapply (reached_at m K (c, .inr (0, c + d))); iexact HR
    isplitl [Ht2]; · iexact Ht2
    iapply (reached_at m K (c + d, .inr (1, c))); iexact HR
  iintro ⟨Hc, HO⟩
  iapply Hk
  isplitl [HO]; · iexists W; iexact HO
  iexact Hc

include hd in
/-- The transfer of results back to the peer at offset `d`. -/
theorem step_send_y {n : Dev nD} (hn : n = c + d) {src dst : Memref sig .tc .vmem S512x1024 .bf16} (hs : src = stS (c + d)) (ht : dst = ysB (-d))
    {sS sR : DmaSem sig} (hS : sS = dsem 2 (c + d)) (hR : sR = dsem 3 c) {hsc : dst.view.ref.isScScratch = false}
    {hsrc : src.view.WordExact} {hdst : dst.view.WordExact} {hsem : DmaTarget.Typed .vmem (.dma sR) (.remote (Dev.tc n : Thread nD τ) dst (.dma sS) hsc)}
    {l : List (GSem nD τ sig × ℕ)} {k : PUnit → Prog (TpuEff nD τ sig (Elt F) Λ₀ .tc) α} {Q : α → sProp 𝕄} :
    iprop(records m K ∗ owesL c ((xCell (c + d) 3 c, NY) :: l) ∗ held c (stB (c + d)) (worked m c (c + d)) ∗ some_ (c + d) (ysB (-d))
        ∗ dutyTok ER (xCell c 2 (c + d)) 0 0 ∗ dutyTok ER (xCell (c + d) 3 c) 0 0)
      ⊢ iprop(((owesL c l ∗ cred (tallyAt (xCell c 2 (c + d)) () (credOf 2))) -∗ wp frame (wpE (defs₀ (F := F)) 𝒱₀ ((c : Dev nD) : Thread nD τ) none) Set.univ (k ⟨⟩) Q)
        -∗ wp frame (wpE (defs₀ (F := F)) 𝒱₀ ((c : Dev nD) : Thread nD τ) none) Set.univ (.op (.enqueueDma src (.remote (Dev.tc n : Thread nD τ) dst (.dma sS) hsc) (.dma sR) hsrc hdst hsem) k) Q) := by
  subst hn hs ht hS hR
  unfold owesL held some_
  iintro ⟨#HR, ⟨%W, HO⟩, ⟨%fs, %hfs, Hs⟩, ⟨%fd, Hd⟩, Ht1, Ht2⟩ Hk
  iapply (Rounds.wp_send_pointsTo 𝒱₀ ER (sched m) (c : Thread nD τ) none (κ₁ := K (c, .inr (2, c + d))) (κ₂ := K (c + d, .inr (3, c)))
    (src := stS (c + d)) (dst := ysB (-d)) (c' := ((c + d : Dev nD) : Thread nD τ)) (q := fullShare) (fs := fs) (fd := fd)
    (r₁ := 0) (r₂ := 0) (d₁ := 0) (d₂ := 0)
    (by rw [duties_peer m c 2 d hd]; exact Finset.mem_singleton_self _) (by rw [duties_from m c 3 d hd]; exact Finset.mem_singleton_self _)
    () () NY rfl (amount_x m c 2 (c + d) 0) (amount_x m (c + d) 3 c 0) (owing l) rfl (W := W)
    (by rw [payload_x]; show _ ⊢ some_ c (stB (c + d)); unfold some_; rw [View.set_reshape]; iintro H; iexists fs; iexact H)
    (by
      rw [payload_x]; show _ ⊢ held (c + d) (ysB (c - (c + d))) (back m (c + d) (c - (c + d)))
      rw [sub_add]
      unfold held; iintro H; iexists _; isplitr; rotate_left
      · iexact H
      ipureintro
      unfold back; rw [if_neg (fun h => hd ((neg_eq_zero_iff d).mp h)), add_neg_self, ← hfs]
      exact View.read_write_univ (Val := Elt F) (v := (ysB (-d)).view) fd _)) $$ [HO Hs Hd Ht1 Ht2]
  · isplitr; · iapply (inv_at m K (c, .inr (2, c + d))); iexact HR
    isplitr; · iapply (inv_at m K (c + d, .inr (3, c))); iexact HR
    isplitl [Hs]; · rw [View.set_reshape]; iexact Hs
    isplitl [Hd]; · iexact Hd
    isplitl [HO]; · iexact HO
    isplitl [Ht1]; · iexact Ht1
    isplitr; · iapply (reached_at m K (c, .inr (2, c + d))); iexact HR
    isplitl [Ht2]; · iexact Ht2
    iapply (reached_at m K (c + d, .inr (3, c))); iexact HR
  iintro ⟨Hc, HO⟩
  iapply Hk
  isplitl [HO]; · iexists W; iexact HO
  iexact Hc

/-- A cell whose round is over closes. -/
theorem close_peer (a : Fin 4) (q : Fin 4) :
    iprop(records m K ∗ atPos ER (xCell c a q) 1 ∅ 0) ⊢ (iprop(|={Set.univ}=> semVal (xCell c a q) 0) : sProp 𝕄) := by
  iintro ⟨#HR, Hat⟩
  iapply (Rounds.cell_close ER (sched m) (Set.mem_univ (K (c, .inr (a, q)))) (fun h => h) (R := 1) (duties_later m (xCell c a q)))
  isplitr; · iapply (inv_at m K (c, .inr (a, q))); iexact HR
  iexact Hat
/-- A cell of the device's own slot, never used, closes. -/
theorem close_own (a : Fin 4) :
    iprop(records m K ∗ atPos ER (xCell c a c) 0 ∅ 0) ⊢ (iprop(|={Set.univ}=> semVal (xCell c a c) 0) : sProp 𝕄) := by
  iintro ⟨#HR, Hat⟩
  iapply (Rounds.cell_close ER (sched m) (Set.mem_univ (K (c, .inr (a, c)))) (fun h => h) (R := 0) (duties_own m c a))
  isplitr; · iapply (inv_at m K (c, .inr (a, c))); iexact HR
  iexact Hat
/-- The barrier cell closes. -/
theorem close_bar :
    iprop(records m K ∗ atPos ER (barCell c) 1 ∅ 0) ⊢ (iprop(|={Set.univ}=> semVal (barCell c) 0) : sProp 𝕄) := by
  iintro ⟨#HR, Hat⟩
  iapply (Rounds.cell_close ER (sched m) (Set.mem_univ (K (c, .inl ()))) (fun h => h) (R := 1) (duties_later m (barCell c)))
  isplitr; · iapply (inv_at m K (c, .inl ())); iexact HR
  iexact Hat

end Remote

end Cert.Exchange

end
-- ==== Proof.Body.lean ====
/-
# The kernel's body on one device

What a device holds when the body starts and when it ends, and the body stepped through, effect by effect.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The state around the body -/

omit [FloatOps F] in
/-- A family over the four devices, written out. -/
theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- The four scratch blocks device `c` keeps for the peer at offset `d`. -/
def blocks (c : Dev nD) (d : Fin 4) : sProp 𝕄 :=
  iprop(some_ c (xsB d) ∗ some_ c (rvB (c + d)) ∗ some_ c (ysB d) ∗ some_ c (stB (c + d)))
/-- The scratch buffers of device `c`, block by block, with unknown contents. -/
def scratch (c : Dev nD) : sProp 𝕄 := bigSep Finset.univ (blocks c)

/-- The permissions device `c` spends on the peer at offset `d`: the barrier's unit, and both ends of the two transfers it starts. -/
def permits (c d : Fin 4) : sProp 𝕄 :=
  iprop(dutyTok ER (barCell (c + d)) 0 d ∗ dutyTok ER (xCell c 0 (c + d)) 0 0 ∗ dutyTok ER (xCell (c + d) 1 c) 0 0
    ∗ dutyTok ER (xCell c 2 (c + d)) 0 0 ∗ dutyTok ER (xCell (c + d) 3 c) 0 0)

/-- The arrivals device `c` counts on from the peer at offset `d`. -/
def arrivals (c d : Fin 4) : sProp 𝕄 :=
  iprop(cred (tallyAt (xCell c 1 (c + d)) () NX) ∗ cred (tallyAt (xCell c 3 (c + d)) () NY))

/-- What device `c` starts with besides its buffers: the shared records of all cells, its place at each of its own cells, and the permissions it spends on the three peers. -/
def ghost (K : Dev nD × KI → ℕ) (c : Dev nD) : sProp 𝕄 :=
  iprop(records m K ∗ atPos ER (barCell c) 0 ∅ 0
    ∗ (bigSep Finset.univ fun a : Fin 4 => bigSep Finset.univ fun d : Fin 4 => atPos ER (xCell c a (c + d)) 0 ∅ 0)
    ∗ permits c 1 ∗ permits c 2 ∗ permits c 3)

/-- `ghost` for some naming of the cells, with the credits that `c` waits for and the levels of the cells. -/
def start (c : Dev nD) : sProp 𝕄 :=
  iprop((∃ K, ghost m K c) ∗ (cred (tallyAt (barCell c) () 3) ∗ arrivals c 1 ∗ arrivals c 2 ∗ arrivals c 3) ∗ levAts L lv)

/-- What device `c` holds before its one grid step. -/
def Φ₀ (c : Dev nD) : sProp 𝕄 := iprop(start m c ∗ scratch c)
/-- What device `c` holds after its one grid step. -/
def Φ₁ (c : Dev nD) : sProp 𝕄 :=
  iprop(scratch c ∗ (bigSep Finset.univ fun a : Fin 4 => bigSep Finset.univ fun d : Fin 4 => semVal (xCell c a (c + d)) 0) ∗ semVal (barCell c) 0)

/-- The grid has one step. -/
theorem cfg0_N : cfg0.N = 1 := by decide
/-- The one grid step. -/
def t₀ : Fin cfg0.N := ⟨0, by rw [cfg0_N]; decide⟩
/-- Every grid step is the one. -/
theorem fin_N (t : Fin cfg0.N) : t = t₀ := by
  obtain ⟨t, ht⟩ := t; have := cfg0_N; exact Fin.ext (by simp only [t₀]; omega)

/-- The pipeline of device `c`: its staged blocks, the result it writes back, and what it holds before and after the step. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inRW m c
    | ⟨2, _⟩ => inRt m c
    | ⟨3, _⟩ => inEW m c
    | ⟨4, _⟩ => inSW m c
    | ⟨5, _⟩ => result m c
  Φ t := match t with
    | ⟨0, _⟩ => Φ₀ m c
    | ⟨_ + 1, _⟩ => Φ₁ c
  q _ := fullShare
  owed t := match t with
    | ⟨0, _⟩ => owing (debt c)
    | ⟨_ + 1, _⟩ => 0

/-- A staging buffer of device `c`, held whole. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Facts the steps use -/

/-- The zero offset of a matrix. -/
theorem zero2 : (![0, 0] : Fin 2 → Nat) = fun _ => 0 := funext fun a => by fin_cases a <;> rfl
/-- The zero offset of an array of three axes. -/
theorem zero3 : (![0, 0, 0] : Fin 3 → Nat) = fun _ => 0 := funext fun a => by fin_cases a <;> rfl

/-- What is owed in the second round lies above the level of the first. -/
theorem debtY_above (c : Dev nD) : ∀ x ∈ debtY c, x.1.1.2 = .tc ∧ 2 < levOf x.1.2 := by
  unfold debtY
  simp only [List.forall_mem_cons, List.not_mem_nil, false_imp_iff, implies_true, and_true, levOf_y]
  decide
/-- What is owed in both rounds lies above the level of the barrier. -/
theorem debtX_above (c : Dev nD) : ∀ x ∈ debtX c, x.1.1.2 = .tc ∧ levOf (.reg barS) < levOf x.1.2 := by
  rw [levOf_bar]
  unfold debtX
  simp only [List.forall_mem_cons, levOf_x]
  exact ⟨by decide, by decide, by decide, fun x hx => ⟨(debtY_above c x hx).1, Nat.lt_of_succ_lt (debtY_above c x hx).2⟩⟩
/-- Above level 2 is above every cell of the first round. -/
theorem above_x {q : Fin 4} {l : List (GSem nD τ sig × ℕ)} (h : ∀ x ∈ l, x.1.1.2 = .tc ∧ 2 < levOf x.1.2) :
    ∀ x ∈ l, x.1.1.2 = .tc ∧ levOf (.dma (dsem 1 q)) < levOf x.1.2 := by rw [levOf_x]; exact h
/-- A bound on all that is owed bounds what is left of it. -/
theorem tail_above {n : ℕ} {y : GSem nD τ sig × ℕ} {l : List (GSem nD τ sig × ℕ)} (h : ∀ x ∈ y :: l, x.1.1.2 = .tc ∧ n < levOf x.1.2) :
    ∀ x ∈ l, x.1.1.2 = .tc ∧ n < levOf x.1.2 := fun x hx => h x (List.mem_cons_of_mem _ hx)
/-- A device that owes nothing may wait for anything. -/
theorem nil_above {n : ℕ} : ∀ x ∈ ([] : List (GSem nD τ sig × ℕ)), x.1.1.2 = .tc ∧ n < levOf x.1.2 := fun x hx => absurd hx List.not_mem_nil

/-- An offset negated twice. -/
theorem neg_twice (d : Fin 4) : - -d = d := by revert d; decide
/-- The device at offset zero. -/
theorem add_none (c : Fin 4) : c + 0 = c := by revert c; decide

/-- The received block at a printed offset is the named block. -/
theorem rv_at {off : Fin 3 → Nat} {q : Fin 4} (h : off = ![q.val, 0, 0]) (hb : ∀ a, off a + S1x512x512.size a ≤ S4x512x512.size a) :
    (rvM.slice (Rect.unit (s := S4x512x512) off S1x512x512.size hb) (fun _ => rfl)).squeeze S512x512 squeezes_S1x512x512_S512x512 = rvS q := by subst h; rfl
/-- The staged block at a printed offset is the named block. -/
theorem st_at {off : Fin 3 → Nat} {q : Fin 4} (h : off = ![q.val, 0, 0]) (hb : ∀ a, off a + S1x512x1024.size a ≤ S4x512x1024.size a) :
    (stM.slice (Rect.unit (s := S4x512x1024) off S1x512x1024.size hb) (fun _ => rfl)).squeeze S512x1024 squeezes_S1x512x1024_S512x1024 = stS q := by subst h; rfl

section Brought
variable (c d : Fin 4)
/-- The first send cell hands back the block that was sent. -/
theorem brought_xs : brought m c 0 (c + d) = some_ c (xsB d) := by show some_ c (xsB (c + d - c)) = _; rw [add_sub]
/-- The first receive cell hands over the tokens that landed. -/
theorem brought_rv : brought m c 1 (c + d) = held c (rvB (c + d)) (landed m c (c + d)) := rfl
/-- The second send cell hands back the staged results. -/
theorem brought_st : brought m c 2 (c + d) = some_ c (stB (c + d)) := rfl
/-- The second receive cell hands over the results that came back. -/
theorem brought_ys : brought m c 3 (c + d) = held c (ysB d) (back m c d) := by show held c (ysB (c + d - c)) (back m c (c + d - c)) = _; rw [add_sub]
/-- What the barrier hands to `c` from the peer at offset `d`, told from that peer. -/
theorem ready_neg (e : Fin 4) (h : e = -d) : (ready c e : sProp 𝕄) = iprop(some_ (c + d) (rvB c) ∗ some_ (c + d) (ysB (-d))) := by
  subst h; unfold ready; rw [neg_twice]
end Brought

/-! ## The steps at the kernel's own buffers -/

section Named
variable {α : Type} (c : Dev nD)

/-- The read that comes before a store of the block for offset `d`, whose value is not used. -/
theorem peek_xs (d : Fin 4) {off : Fin 2 → Nat} (h : off = ![512 * d.val, 0]) {hb : ∀ a, off a + S512x512.size a ≤ S2048x512.size a}
    {hl : xsM.view.LoadsAt (Rect.unit (s := S2048x512) off S512x512.size hb).toLoadRect} {p : Prog (TpuEff nD τ sig (Elt F) Λ₀ .tc) α} {Q : α → sProp 𝕄} :
    (some_ c (xsB d) : sProp 𝕄) ⊢ iprop((some_ c (xsB d) -∗ wp frame (wpE (defs₀ (F := F)) 𝒱₀ ((c : Dev nD) : Thread nD τ) none) Set.univ p Q) -∗ wp frame (wpE (defs₀ (F := F)) 𝒱₀ ((c : Dev nD) : Thread nD τ) none) Set.univ (.op (.load xsM (Rect.unit (s := S2048x512) off S512x512.size hb).toLoadRect hl) fun _ => p) Q) :=
  step_peek c xsM h hb (xs_inb d)
/-- A store of the block for offset `d`. -/
theorem store_xs (d : Fin 4) {off : Fin 2 → Nat} (h : off = ![512 * d.val, 0]) {hb : ∀ a, off a + S512x512.size a ≤ S2048x512.size a}
    {w : Vec F S512x512 .bf16} {hx : (xsM.access (Rect.unit (s := S2048x512) off S512x512.size hb)).Stores Finset.univ} {hm}
    {k : PUnit → Prog (TpuEff nD τ sig (Elt F) Λ₀ .tc) α} {Q : α → sProp 𝕄} :
    (some_ c (xsB d) : sProp 𝕄) ⊢ iprop((held c (xsB d) w -∗ wp frame (wpE (defs₀ (F := F)) 𝒱₀ ((c : Dev nD) : Thread nD τ) none) Set.univ (k ⟨⟩) Q) -∗ wp frame (wpE (defs₀ (F := F)) 𝒱₀ ((c : Dev nD) : Thread nD τ) none) Set.univ (.op (.store xsM (Rect.unit (s := S2048x512) off S512x512.size hb) w Finset.univ hx hm) k) Q) :=
  step_store c xsM h hb (xs_inb d)
/-- A load of the block for offset `d`. -/
theorem load_xs (d : Fin 4) {off : Fin 2 → Nat} (h : off = ![512 * d.val, 0]) {hb : ∀ a, off a + S512x512.size a ≤ S2048x512.size a}
    {hl : xsM.view.LoadsAt (Rect.unit (s := S2048x512) off S512x512.size hb).toLoadRect} {k : Vec F S512x512 .bf16 → Prog (TpuEff nD τ sig (Elt F) Λ₀ .tc) α} {Q : α → sProp 𝕄}
    (X : Vec F S512x512 .bf16) :
    (held c (xsB d) X : sProp 𝕄) ⊢ iprop((held c (xsB d) X -∗ wp frame (wpE (defs₀ (F := F)) 𝒱₀ ((c : Dev nD) : Thread nD τ) none) Set.univ (k X) Q) -∗ wp frame (wpE (defs₀ (F := F)) 𝒱₀ ((c : Dev nD) : Thread nD τ) none) Set.univ (.op (.load xsM (Rect.unit (s := S2048x512) off S512x512.size hb).toLoadRect hl) k) Q) :=
  step_load c xsM h hb (xs_inb d) X
/-- The same three steps of the block of results at offset `d`. -/
theorem peek_ys (d : Fin 4) {off : Fin 2 → Nat} (h : off = ![512 * d.val, 0]) {hb : ∀ a, off a + S512x1024.size a ≤ S2048x1024.size a}
    {hl : ysM.view.LoadsAt (Rect.unit (s := S2048x1024) off S512x1024.size hb).toLoadRect} {p : Prog (TpuEff nD τ sig (Elt F) Λ₀ .tc) α} {Q : α → sProp 𝕄} :
    (some_ c (ysB d) : sProp 𝕄) ⊢ iprop((some_ c (ysB d) -∗ wp frame (wpE (defs₀ (F := F)) 𝒱₀ ((c : Dev nD) : Thread nD τ) none) Set.univ p Q) -∗ wp frame (wpE (defs₀ (F := F)) 𝒱₀ ((c : Dev nD) : Thread nD τ) none) Set.univ (.op (.load ysM (Rect.unit (s := S2048x1024) off S512x1024.size hb).toLoadRect hl) fun _ => p) Q) :=
  step_peek c ysM h hb (ys_inb d)
theorem store_ys (d : Fin 4) {off : Fin 2 → Nat} (h : off = ![512 * d.val, 0]) {hb : ∀ a, off a + S512x1024.size a ≤ S2048x1024.size a}
    {w : Vec F S512x1024 .bf16} {hx : (ysM.access (Rect.unit (s := S2048x1024) off S512x1024.size hb)).Stores Finset.univ} {hm}
    {k : PUnit → Prog (TpuEff nD τ sig (Elt F) Λ₀ .tc) α} {Q : α → sProp 𝕄} :
    (some_ c (ysB d) : sProp 𝕄) ⊢ iprop((held c (ysB d) w -∗ wp frame (wpE (defs₀ (F := F)) 𝒱₀ ((c : Dev nD) : Thread nD τ) none) Set.univ (k ⟨⟩) Q) -∗ wp frame (wpE (defs₀ (F := F)) 𝒱₀ ((c : Dev nD) : Thread nD τ) none) Set.univ (.op (.store ysM (Rect.unit (s := S2048x1024) off S512x1024.size hb) w Finset.univ hx hm) k) Q) :=
  step_store c ysM h hb (ys_inb d)
theorem load_ys (d : Fin 4) {off : Fin 2 → Nat} (h : off = ![512 * d.val, 0]) {hb : ∀ a, off a + S512x1024.size a ≤ S2048x1024.size a}
    {hl : ysM.view.LoadsAt (Rect.unit (s := S2048x1024) off S512x1024.size hb).toLoadRect} {k : Vec F S512x1024 .bf16 → Prog (TpuEff nD τ sig (Elt F) Λ₀ .tc) α} {Q : α → sProp 𝕄}
    (X : Vec F S512x1024 .bf16) :
    (held c (ysB d) X : sProp 𝕄) ⊢ iprop((held c (ysB d) X -∗ wp frame (wpE (defs₀ (F := F)) 𝒱₀ ((c : Dev nD) : Thread nD τ) none) Set.univ (k X) Q) -∗ wp frame (wpE (defs₀ (F := F)) 𝒱₀ ((c : Dev nD) : Thread nD τ) none) Set.univ (.op (.load ysM (Rect.unit (s := S2048x1024) off S512x1024.size hb).toLoadRect hl) k) Q) :=
  step_load c ysM h hb (ys_inb d) X
/-- A load of the tokens received from device `q`. -/
theorem load_rv (q : Fin 4) {off : Fin 3 → Nat} (h : off = ![q.val, 0, 0]) {hb : ∀ a, off a + S1x512x512.size a ≤ S4x512x512.size a}
    {hl : rvM.view.LoadsAt (Rect.unit (s := S4x512x512) off S1x512x512.size hb).toLoadRect} {k : Vec F S1x512x512 .bf16 → Prog (TpuEff nD τ sig (Elt F) Λ₀ .tc) α} {Q : α → sProp 𝕄}
    (X : Vec F S1x512x512 .bf16) :
    (held c (rvB q) X : sProp 𝕄) ⊢ iprop((held c (rvB q) X -∗ wp frame (wpE (defs₀ (F := F)) 𝒱₀ ((c : Dev nD) : Thread nD τ) none) Set.univ (k X) Q) -∗ wp frame (wpE (defs₀ (F := F)) 𝒱₀ ((c : Dev nD) : Thread nD τ) none) Set.univ (.op (.load rvM (Rect.unit (s := S4x512x512) off S1x512x512.size hb).toLoadRect hl) k) Q) :=
  step_load c rvM h hb (rv_inb q) X
/-- The unused read and the store of the results for device `q`. -/
theorem peek_st (q : Fin 4) {off : Fin 3 → Nat} (h : off = ![q.val, 0, 0]) {hb : ∀ a, off a + S1x512x1024.size a ≤ S4x512x1024.size a}
    {hl : stM.view.LoadsAt (Rect.unit (s := S4x512x1024) off S1x512x1024.size hb).toLoadRect} {p : Prog (TpuEff nD τ sig (Elt F) Λ₀ .tc) α} {Q : α → sProp 𝕄} :
    (some_ c (stB q) : sProp 𝕄) ⊢ iprop((some_ c (stB q) -∗ wp frame (wpE (defs₀ (F := F)) 𝒱₀ ((c : Dev nD) : Thread nD τ) none) Set.univ p Q) -∗ wp frame (wpE (defs₀ (F := F)) 𝒱₀ ((c : Dev nD) : Thread nD τ) none) Set.univ (.op (.load stM (Rect.unit (s := S4x512x1024) off S1x512x1024.size hb).toLoadRect hl) fun _ => p) Q) :=
  step_peek c stM h hb (st_inb q)
theorem store_st (q : Fin 4) {off : Fin 3 → Nat} (h : off = ![q.val, 0, 0]) {hb : ∀ a, off a + S1x512x1024.size a ≤ S4x512x1024.size a}
    {w : Vec F S1x512x1024 .bf16} {hx : (stM.access (Rect.unit (s := S4x512x1024) off S1x512x1024.size hb)).Stores Finset.univ} {hm}
    {k : PUnit → Prog (TpuEff nD τ sig (Elt F) Λ₀ .tc) α} {Q : α → sProp 𝕄} :
    (some_ c (stB q) : sProp 𝕄) ⊢ iprop((held c (stB q) w -∗ wp frame (wpE (defs₀ (F := F)) 𝒱₀ ((c : Dev nD) : Thread nD τ) none) Set.univ (k ⟨⟩) Q) -∗ wp frame (wpE (defs₀ (F := F)) 𝒱₀ ((c : Dev nD) : Thread nD τ) none) Set.univ (.op (.store stM (Rect.unit (s := S4x512x1024) off S1x512x1024.size hb) w Finset.univ hx hm) k) Q) :=
  step_store c stM h hb (st_inb q)

/-- A load from a buffer held whole. -/
theorem load_all {s : Shape} {e : EltTy} (M : Memref sig .tc .vmem s e) {r : LoadRect s} {hl : M.view.LoadsAt r}
    {k : (r.shape.Idx → Elt F e) → Prog (TpuEff nD τ sig (Elt F) Λ₀ .tc) α} {Q : α → sProp 𝕄} {f : Buf (Elt F) (M.view.loc (c : Thread nD τ))}
    {X : r.shape.Idx → Elt F e} (h : M.view.readAt (Elt F) r f = X) :
    ((M.view.loc (c : Thread nD τ) ↦{fullShare} f) : sProp 𝕄)
      ⊢ iprop(((M.view.loc (c : Thread nD τ) ↦{fullShare} f) -∗ wp frame (wpE (defs₀ (F := F)) 𝒱₀ ((c : Dev nD) : Thread nD τ) none) Set.univ (k X) Q) -∗ wp frame (wpE (defs₀ (F := F)) 𝒱₀ ((c : Dev nD) : Thread nD τ) none) Set.univ (.op (.load M r hl) k) Q) := by
  subst h
  exact wp_load 𝒱₀ (c : Thread nD τ) none Set.univ (m := M) (Finset.subset_univ _)

end Named

section Close
variable (K : Dev nD × KI → ℕ) (c : Fin 4)
/-- The four cells of one array close. -/
theorem close_row (a : Fin 4) :
    iprop(records m K ∗ atPos ER (xCell c a (c + 0)) 0 ∅ 0 ∗ atPos ER (xCell c a (c + 1)) 1 ∅ 0 ∗ atPos ER (xCell c a (c + 2)) 1 ∅ 0 ∗ atPos ER (xCell c a (c + 3)) 1 ∅ 0)
      ⊢ (iprop(|={Set.univ}=> bigSep Finset.univ fun d : Fin 4 => semVal (xCell c a (c + d)) 0) : sProp 𝕄) := by
  rw [four, add_none]
  iintro ⟨#HR, H0, H1, H2, H3⟩
  imod (close_own m K c a) $$ [H0] with Z0
  · isplitr; · iexact HR
    iexact H0
  imod (close_peer m K c a (c + 1)) $$ [H1] with Z1
  · isplitr; · iexact HR
    iexact H1
  imod (close_peer m K c a (c + 2)) $$ [H2] with Z2
  · isplitr; · iexact HR
    iexact H2
  imod (close_peer m K c a (c + 3)) $$ [H3] with Z3
  · isplitr; · iexact HR
    iexact H3
  imodintro
  isplitl [Z0]; · iexact Z0
  isplitl [Z1]; · iexact Z1
  isplitl [Z2] <;> iassumption
end Close

end Cert.Exchange

end
-- ==== Proof.Run.lean ====
/-
# The body stepped through

One rule per effect, in program order, from what device `c` starts with to what it ends with.
-/
module

public import proofs.«01_k».proof.Proof.Body
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-- Before the step each input window holds its block. -/
theorem before_0 (c : Dev nD) (d) : (dats m ρ 0 c).before (0 : Fin 6) t₀ d = inX m c := by unfold Dat.before; rw [if_pos (fetch0_0 t₀)]; rfl
theorem before_1 (c : Dev nD) (d) : (dats m ρ 0 c).before (1 : Fin 6) t₀ d = inRW m c := by unfold Dat.before; rw [if_pos (fetch0_1 t₀)]; rfl
theorem before_2 (c : Dev nD) (d) : (dats m ρ 0 c).before (2 : Fin 6) t₀ d = inRt m c := by unfold Dat.before; rw [if_pos (fetch0_2 t₀)]; rfl
theorem before_3 (c : Dev nD) (d) : (dats m ρ 0 c).before (3 : Fin 6) t₀ d = inEW m c := by unfold Dat.before; rw [if_pos (fetch0_3 t₀)]; rfl
theorem before_4 (c : Dev nD) (d) : (dats m ρ 0 c).before (4 : Fin 6) t₀ d = inSW m c := by unfold Dat.before; rw [if_pos (fetch0_4 t₀)]; rfl

/-- What the body begins with. -/
def bodyPre (c : Dev nD) : sProp 𝕄 :=
  iprop((ghost m K c ∗ (cred (tallyAt (barCell c) () 3) ∗ arrivals c 1 ∗ arrivals c 2 ∗ arrivals c 3) ∗ levAts L lv ∗ scratch c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What the body ends with. -/
def bodyPost (c : Dev nD) : sProp 𝕄 :=
  iprop(Φ₁ c ∗ (dats m ρ 0 c).owesAt () t₀.succ
    ∗ stg c cc0_stg0_0 (inX m c) ∗ stg c cc0_stg1_0 (inRW m c) ∗ stg c cc0_stg2_0 (inRt m c) ∗ stg c cc0_stg3_0 (inEW m c)
    ∗ stg c cc0_stg4_0 (inSW m c) ∗ stg c cc0_stg5_0 (result m c))

set_option maxHeartbeats 4000000 in
set_option maxRecDepth 8000 in
/-- The body, run from its beginning to its end on device `c`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel
  simp only [semSignalWord, semWaitWord, Prog.lift, Prog.bind_op, Prog.bind_ret, Prog.pure_eq_ret, wp_deviceId]
  unfold bodyPre ghost scratch arrivals permits
  simp only [four]
  unfold blocks
  iintro ⟨⟨⟨⟨#HR, HatB, ⟨⟨A00, A01, A02, A03⟩, ⟨A10, A11, A12, A13⟩, ⟨A20, A21, A22, A23⟩, A30, A31, A32, A33⟩,
      ⟨tb1, tx1, ta1, ty1, tz1⟩, ⟨tb2, tx2, ta2, ty2, tz2⟩, tb3, tx3, ta3, ty3, tz3⟩,
      ⟨HcB, ⟨cx1, cy1⟩, ⟨cx2, cy2⟩, cx3, cy3⟩, #Hlev, ⟨x0, r0, y0, s0⟩, ⟨x1, r1, y1, s1⟩, ⟨x2, r2, y2, s2⟩, x3, r3, y3, s3⟩,
    Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have e0 : g0 = inX m c := hg0.trans (before_0 m ρ c d0)
  have e1 : g1 = inRW m c := hg1.trans (before_1 m ρ c d1)
  have e2 : g2 = inRt m c := hg2.trans (before_2 m ρ c d2)
  have e3 : g3 = inEW m c := hg3.trans (before_3 m ρ c d3)
  have e4 : g4 = inSW m c := hg4.trans (before_4 m ρ c d4)
  clear hg0 hg1 hg2 hg3 hg4 hg5
  ihave HO := (show (dats m ρ 0 c).owesAt () t₀.castSucc ⊢ owesL c (debt c) from by
    unfold Dat.owesAt Pipeline.owesWithin owesL
    iintro ⟨%W, -, H⟩; iexists W; iexact H) $$ Ho
  -- a unit to each peer's barrier, with the blocks that peer will write; then the wait for all three
  iapply (step_signal m K c 1 (by decide) (dev1 c)) $$ [HO tb1 r1 y1]
  · isplitr; · iexact HR
    isplitl [HO]; · iexact HO
    isplitl [tb1]; · iexact tb1
    isplitl [r1] <;> iassumption
  iintro HO
  iapply (step_signal m K c 2 (by decide) (dev2 c)) $$ [HO tb2 r2 y2]
  · isplitr; · iexact HR
    isplitl [HO]; · iexact HO
    isplitl [tb2]; · iexact tb2
    isplitl [r2] <;> iassumption
  iintro HO
  iapply (step_signal m K c 3 (by decide) (dev3 c)) $$ [HO tb3 r3 y3]
  · isplitr; · iexact HR
    isplitl [HO]; · iexact HO
    isplitl [tb3]; · iexact tb3
    isplitl [r3] <;> iassumption
  iintro HO
  iapply (step_barrier m K c (debtX_above c)) $$ [HO HcB HatB]
  · isplitr; · iexact HR
    isplitl [HO]; · iexact HO
    isplitr; · iexact Hlev
    isplitl [HcB] <;> iassumption
  iintro ⟨HO, HatB, q3, q2, q1⟩
  icases (Entails.of_eq (ready_neg c 1 3 (by decide))) $$ q1 with ⟨p1, z1⟩
  icases (Entails.of_eq (ready_neg c 2 2 (by decide))) $$ q2 with ⟨p2, z2⟩
  icases (Entails.of_eq (ready_neg c 3 1 (by decide))) $$ q3 with ⟨p3, z3⟩
  -- the tokens, the router and the routes
  iapply (load_all c (Memref.whole cc0_stg0_0) ((Memref.readAt_unit_zero (Elt F) cc0_stg0_0 zero2 _ g0).trans e0)) $$ H0; iintro H0
  iapply (load_all c (Memref.whole cc0_stg1_0) ((Memref.readAt_unit_zero (Elt F) cc0_stg1_0 zero2 _ g1).trans e1)) $$ H1; iintro H1
  iapply (load_all c (Memref.whole cc0_stg2_0) ((Memref.readAt_unit_zero (Elt F) cc0_stg2_0 zero2 _ g2).trans e2)) $$ H2; iintro H2
  -- the gathered tokens to each peer
  iapply (peek_xs c 1 rfl) $$ x1; iintro x1
  iapply (store_xs c 1 rfl (w := sent m c 1)) $$ x1; iintro x1
  iapply (step_send_x m K c 1 (by decide) (dev4 c) rfl (rv_at (off3 c) _) (sem_at 0 (c + 1) (off1 c 1) _ _) (sem_at 1 c (off2 c) _ _)) $$ [HO x1 p1 tx1 ta1]
  · isplitr; · iexact HR
    isplitl [HO]; · iexact HO
    isplitl [x1]; · iexact x1
    isplitl [p1]; · iexact p1
    isplitl [tx1] <;> iassumption
  iintro ⟨HO, kx1⟩
  iapply (peek_xs c 3 rfl) $$ x3; iintro x3
  iapply (store_xs c 3 rfl (w := sent m c 3)) $$ x3; iintro x3
  iapply (step_send_x m K c 3 (by decide) (dev5 c) rfl (rv_at (off3 c) _) (sem_at 0 (c + 3) (off1 c 3) _ _) (sem_at 1 c (off2 c) _ _)) $$ [HO x3 p3 tx3 ta3]
  · isplitr; · iexact HR
    isplitl [HO]; · iexact HO
    isplitl [x3]; · iexact x3
    isplitl [p3]; · iexact p3
    isplitl [tx3] <;> iassumption
  iintro ⟨HO, kx3⟩
  iapply (peek_xs c 2 rfl) $$ x2; iintro x2
  iapply (store_xs c 2 rfl (w := sent m c 2)) $$ x2; iintro x2
  iapply (step_send_x m K c 2 (by decide) (dev6 c) rfl (rv_at (off3 c) _) (sem_at 0 (c + 2) (off1 c 2) _ _) (sem_at 1 c (off2 c) _ _)) $$ [HO x2 p2 tx2 ta2]
  · isplitr; · iexact HR
    isplitl [HO]; · iexact HO
    isplitl [x2]; · iexact x2
    isplitl [p2]; · iexact p2
    isplitl [tx2] <;> iassumption
  iintro ⟨HO, kx2⟩
  -- the device's own experts, and the shared expert
  iapply (load_all c (Memref.whole cc0_stg3_0) ((Memref.readAt_unit_zero (Elt F) cc0_stg3_0 zero3 _ g3).trans e3)) $$ H3; iintro H3
  iapply (peek_xs c 0 rfl) $$ x0; iintro x0
  iapply (store_xs c 0 rfl (w := sent m c 0)) $$ x0; iintro x0
  iapply (load_xs c 0 rfl (sent m c 0)) $$ x0; iintro x0
  iapply (peek_ys c 0 rfl) $$ y0; iintro y0
  iapply (store_ys c 0 rfl (w := back m c 0)) $$ y0; iintro y0
  iapply (load_all c (Memref.whole cc0_stg4_0) ((Memref.readAt_unit_zero (Elt F) cc0_stg4_0 zero2 _ g4).trans e4)) $$ H4; iintro H4
  iapply (load_ys c 0 rfl (back m c 0)) $$ y0; iintro y0
  -- each peer's tokens as they arrive, their results sent back
  iapply (step_wait m K c 1 (by decide) 1 (sem_at 1 (c + 1) (off1 c 1) _ _) (above_x (debtY_above c))) $$ [HO cx1 A11]
  · isplitr; · ipureintro; rfl
    isplitr; · iexact HR
    isplitl [HO]; · iexact HO
    isplitr; · iexact Hlev
    isplitl [cx1]; · iexact cx1
    iexact A11
  iintro ⟨HO, A11, r1⟩
  ihave r1 := (Entails.of_eq (brought_rv m c 1)) $$ r1
  iapply (load_rv c (c + 1) (off5 c 1) (landed m c (c + 1))) $$ r1; iintro r1
  iapply (peek_st c (c + 1) (off6 c 1)) $$ s1; iintro s1
  iapply (store_st c (c + 1) (off6 c 1) (w := worked m c (c + 1))) $$ s1; iintro s1
  iapply (step_send_y m K c 1 (by decide) (dev7 c) (st_at (off7 c 1) _) rfl (sem_at 2 (c + 1) (off1 c 1) _ _) (sem_at 3 c (off2 c) _ _)) $$ [HO s1 z1 ty1 tz1]
  · isplitr; · iexact HR
    isplitl [HO]; · iexact HO
    isplitl [s1]; · iexact s1
    isplitl [z1]; · iexact z1
    isplitl [ty1] <;> iassumption
  iintro ⟨HO, ky1⟩
  iapply (step_wait m K c 3 (by decide) 1 (sem_at 1 (c + 3) (off1 c 3) _ _) (above_x (tail_above (debtY_above c)))) $$ [HO cx3 A13]
  · isplitr; · ipureintro; rfl
    isplitr; · iexact HR
    isplitl [HO]; · iexact HO
    isplitr; · iexact Hlev
    isplitl [cx3]; · iexact cx3
    iexact A13
  iintro ⟨HO, A13, r3⟩
  ihave r3 := (Entails.of_eq (brought_rv m c 3)) $$ r3
  iapply (load_rv c (c + 3) (off5 c 3) (landed m c (c + 3))) $$ r3; iintro r3
  iapply (peek_st c (c + 3) (off6 c 3)) $$ s3; iintro s3
  iapply (store_st c (c + 3) (off6 c 3) (w := worked m c (c + 3))) $$ s3; iintro s3
  iapply (step_send_y m K c 3 (by decide) (dev8 c) (st_at (off7 c 3) _) rfl (sem_at 2 (c + 3) (off1 c 3) _ _) (sem_at 3 c (off2 c) _ _)) $$ [HO s3 z3 ty3 tz3]
  · isplitr; · iexact HR
    isplitl [HO]; · iexact HO
    isplitl [s3]; · iexact s3
    isplitl [z3]; · iexact z3
    isplitl [ty3] <;> iassumption
  iintro ⟨HO, ky3⟩
  iapply (step_wait m K c 2 (by decide) 1 (sem_at 1 (c + 2) (off1 c 2) _ _) (above_x (tail_above (tail_above (debtY_above c))))) $$ [HO cx2 A12]
  · isplitr; · ipureintro; rfl
    isplitr; · iexact HR
    isplitl [HO]; · iexact HO
    isplitr; · iexact Hlev
    isplitl [cx2]; · iexact cx2
    iexact A12
  iintro ⟨HO, A12, r2⟩
  ihave r2 := (Entails.of_eq (brought_rv m c 2)) $$ r2
  iapply (load_rv c (c + 2) (off5 c 2) (landed m c (c + 2))) $$ r2; iintro r2
  iapply (peek_st c (c + 2) (off6 c 2)) $$ s2; iintro s2
  iapply (store_st c (c + 2) (off6 c 2) (w := worked m c (c + 2))) $$ s2; iintro s2
  iapply (step_send_y m K c 2 (by decide) (dev9 c) (st_at (off7 c 2) _) rfl (sem_at 2 (c + 2) (off1 c 2) _ _) (sem_at 3 c (off2 c) _ _)) $$ [HO s2 z2 ty2 tz2]
  · isplitr; · iexact HR
    isplitl [HO]; · iexact HO
    isplitl [s2]; · iexact s2
    isplitl [z2]; · iexact z2
    isplitl [ty2] <;> iassumption
  iintro ⟨HO, ky2⟩
  -- the results for this device's tokens as they come back
  iapply (step_wait m K c 1 (by decide) 3 (sem_at 3 (c + 1) (off1 c 1) _ _) nil_above) $$ [HO cy1 A31]
  · isplitr; · ipureintro; rfl
    isplitr; · iexact HR
    isplitl [HO]; · iexact HO
    isplitr; · iexact Hlev
    isplitl [cy1]; · iexact cy1
    iexact A31
  iintro ⟨HO, A31, y1⟩
  ihave y1 := (Entails.of_eq (brought_ys m c 1)) $$ y1
  iapply (load_ys c 1 rfl (back m c 1)) $$ y1; iintro y1
  iapply (step_wait m K c 3 (by decide) 3 (sem_at 3 (c + 3) (off1 c 3) _ _) nil_above) $$ [HO cy3 A33]
  · isplitr; · ipureintro; rfl
    isplitr; · iexact HR
    isplitl [HO]; · iexact HO
    isplitr; · iexact Hlev
    isplitl [cy3]; · iexact cy3
    iexact A33
  iintro ⟨HO, A33, y3⟩
  ihave y3 := (Entails.of_eq (brought_ys m c 3)) $$ y3
  iapply (load_ys c 3 rfl (back m c 3)) $$ y3; iintro y3
  iapply (step_wait m K c 2 (by decide) 3 (sem_at 3 (c + 2) (off1 c 2) _ _) nil_above) $$ [HO cy2 A32]
  · isplitr; · ipureintro; rfl
    isplitr; · iexact HR
    isplitl [HO]; · iexact HO
    isplitr; · iexact Hlev
    isplitl [cy2]; · iexact cy2
    iexact A32
  iintro ⟨HO, A32, y2⟩
  ihave y2 := (Entails.of_eq (brought_ys m c 2)) $$ y2
  iapply (load_ys c 2 rfl (back m c 2)) $$ y2; iintro y2
  iapply (load_all c (Memref.whole cc0_stg5_0) rfl) $$ H5; iintro H5
  iapply (wp_store 𝒱₀ (c : Thread nD τ) none Set.univ (m := Memref.whole cc0_stg5_0)
    (r := Rect.unit (s := S1024x1024) ![0, 0] S1024x1024.size inb_S1024x1024_S1024x1024_0_0) (Mk := Finset.univ) (Finset.subset_univ _)) $$ H5; iintro H5
  -- the sources of this device's transfers
  iapply (step_wait m K c 1 (by decide) 0 (sem_at 0 (c + 1) (off1 c 1) _ _) nil_above) $$ [HO kx1 A01]
  · isplitr; · ipureintro; rfl
    isplitr; · iexact HR
    isplitl [HO]; · iexact HO
    isplitr; · iexact Hlev
    isplitl [kx1]; · iexact kx1
    iexact A01
  iintro ⟨HO, A01, x1⟩
  ihave x1 := (Entails.of_eq (brought_xs m c 1)) $$ x1
  iapply (step_wait m K c 3 (by decide) 0 (sem_at 0 (c + 3) (off1 c 3) _ _) nil_above) $$ [HO kx3 A03]
  · isplitr; · ipureintro; rfl
    isplitr; · iexact HR
    isplitl [HO]; · iexact HO
    isplitr; · iexact Hlev
    isplitl [kx3]; · iexact kx3
    iexact A03
  iintro ⟨HO, A03, x3⟩
  ihave x3 := (Entails.of_eq (brought_xs m c 3)) $$ x3
  iapply (step_wait m K c 2 (by decide) 0 (sem_at 0 (c + 2) (off1 c 2) _ _) nil_above) $$ [HO kx2 A02]
  · isplitr; · ipureintro; rfl
    isplitr; · iexact HR
    isplitl [HO]; · iexact HO
    isplitr; · iexact Hlev
    isplitl [kx2]; · iexact kx2
    iexact A02
  iintro ⟨HO, A02, x2⟩
  ihave x2 := (Entails.of_eq (brought_xs m c 2)) $$ x2
  iapply (step_wait m K c 1 (by decide) 2 (sem_at 2 (c + 1) (off1 c 1) _ _) nil_above) $$ [HO ky1 A21]
  · isplitr; · ipureintro; rfl
    isplitr; · iexact HR
    isplitl [HO]; · iexact HO
    isplitr; · iexact Hlev
    isplitl [ky1]; · iexact ky1
    iexact A21
  iintro ⟨HO, A21, s1⟩
  ihave s1 := (Entails.of_eq (brought_st m c 1)) $$ s1
  iapply (step_wait m K c 3 (by decide) 2 (sem_at 2 (c + 3) (off1 c 3) _ _) nil_above) $$ [HO ky3 A23]
  · isplitr; · ipureintro; rfl
    isplitr; · iexact HR
    isplitl [HO]; · iexact HO
    isplitr; · iexact Hlev
    isplitl [ky3]; · iexact ky3
    iexact A23
  iintro ⟨HO, A23, s3⟩
  ihave s3 := (Entails.of_eq (brought_st m c 3)) $$ s3
  iapply (step_wait m K c 2 (by decide) 2 (sem_at 2 (c + 2) (off1 c 2) _ _) nil_above) $$ [HO ky2 A22]
  · isplitr; · ipureintro; rfl
    isplitr; · iexact HR
    isplitl [HO]; · iexact HO
    isplitr; · iexact Hlev
    isplitl [ky2]; · iexact ky2
    iexact A22
  iintro ⟨HO, A22, s2⟩
  ihave s2 := (Entails.of_eq (brought_st m c 2)) $$ s2
  -- every cell closes
  imod (close_row m K c 0) $$ [A00 A01 A02 A03] with Z0
  · isplitr; · iexact HR
    isplitl [A00]; · iexact A00
    isplitl [A01]; · iexact A01
    isplitl [A02] <;> iassumption
  imod (close_row m K c 1) $$ [A10 A11 A12 A13] with Z1
  · isplitr; · iexact HR
    isplitl [A10]; · iexact A10
    isplitl [A11]; · iexact A11
    isplitl [A12] <;> iassumption
  imod (close_row m K c 2) $$ [A20 A21 A22 A23] with Z2
  · isplitr; · iexact HR
    isplitl [A20]; · iexact A20
    isplitl [A21]; · iexact A21
    isplitl [A22] <;> iassumption
  imod (close_row m K c 3) $$ [A30 A31 A32 A33] with Z3
  · isplitr; · iexact HR
    isplitl [A30]; · iexact A30
    isplitl [A31]; · iexact A31
    isplitl [A32] <;> iassumption
  imod (close_bar m K c) $$ [HatB] with ZB
  · isplitr; · iexact HR
    iexact HatB
  rw [wp_ret]; imodintro
  iapply Hk
  unfold bodyPost Φ₁ scratch
  simp only [four]
  unfold blocks
  isplitl [x0 r0 y0 s0 x1 r1 y1 s1 x2 r2 y2 s2 x3 r3 y3 s3 Z0 Z1 Z2 Z3 ZB]
  · isplitl [x0 r0 y0 s0 x1 r1 y1 s1 x2 r2 y2 s2 x3 r3 y3 s3]
    · isplitl [x0 r0 y0 s0]
      · isplitl [x0]; · iapply (held_some c (xsB 0)); iexact x0
        isplitl [r0]; · iexact r0
        isplitl [y0]; · iapply (held_some c (ysB 0)); iexact y0
        iexact s0
      isplitl [x1 r1 y1 s1]
      · isplitl [x1]; · iexact x1
        isplitl [r1]; · iapply (held_some c (rvB (c + 1))); iexact r1
        isplitl [y1]; · iapply (held_some c (ysB 1)); iexact y1
        iexact s1
      isplitl [x2 r2 y2 s2]
      · isplitl [x2]; · iexact x2
        isplitl [r2]; · iapply (held_some c (rvB (c + 2))); iexact r2
        isplitl [y2]; · iapply (held_some c (ysB 2)); iexact y2
        iexact s2
      isplitl [x3]; · iexact x3
      isplitl [r3]; · iapply (held_some c (rvB (c + 3))); iexact r3
      isplitl [y3]; · iapply (held_some c (ysB 3)); iexact y3
      iexact s3
    isplitl [Z0 Z1 Z2 Z3]
    · isplitl [Z0]; · iexact Z0
      isplitl [Z1]; · iexact Z1
      isplitl [Z2] <;> iassumption
    iexact ZB
  isplitl [HO]
  · unfold Dat.owesAt Pipeline.owesWithin owesL
    icases HO with ⟨%W, HO⟩
    iexists W; isplitr; · ipureintro; exact fun _ _ => Or.inl trivial
    iexact HO
  isplitl [H0]
  · iexists g0; isplitr; · ipureintro; exact e0
    iexact H0
  isplitl [H1]
  · iexists g1; isplitr; · ipureintro; exact e1
    iexact H1
  isplitl [H2]
  · iexists g2; isplitr; · ipureintro; exact e2
    iexact H2
  isplitl [H3]
  · iexists g3; isplitr; · ipureintro; exact e3
    iexact H3
  isplitl [H4]
  · iexists g4; isplitr; · ipureintro; exact e4
    iexact H4
  iexists _; isplitr; rotate_left
  · iexact H5
  ipureintro
  exact Memref.write_access_unit_zero_univ (Elt F) cc0_stg5_0 zero2 _ g5 (result m c)

end Cert.Exchange

end
-- ==== Proof.Launch.lean ====
/-
# The launch

The body as the pipeline calls it, the scratch buffers cut into the blocks the body uses, the semaphores' records set up
and dealt to the devices, and the run of the whole program.
-/
module

public import proofs.«01_k».proof.Proof.Run
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

/-- A family over the six windows, written out. -/
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A buffer held whole, as its cells. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 8000 in
/-- What the grid step is given, as the pipeline states it. -/
def bodyPre' (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 8000 in
/-- The grid step does what the pipeline asks of it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ c)
  unfold bodyPre' Φ₀ start
  iintro ⟨⟨⟨⟨%K, Hg⟩, Hcr, Hlev⟩, Hscr⟩, Hrest⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    iexact Hrest
  · iintro H; iexact H

/-! ## Turning offsets into devices -/

/-- Moving every device on by `d`; and counting offsets from `c`. -/
def shift (d : Fin 4) : Fin 4 ≃ Fin 4 where
  toFun c := c + d
  invFun c := c + -d
  left_inv c := add_neg_self c d
  right_inv c := neg_add_self c d
/-- Offsets from `c` and devices correspond. -/
def around (c : Fin 4) : Fin 4 ≃ Fin 4 where
  toFun d := c + d
  invFun q := q - c
  left_inv d := add_sub c d
  right_inv q := by revert c q; decide

/-- A family over the devices, told by their offset from `c`. -/
theorem by_offset (c : Fin 4) (Φ : Fin 4 → sProp 𝕄) : (bigSep Finset.univ fun d => Φ (c + d)) = bigSep Finset.univ Φ :=
  (bigSep_univ_equiv (around c) Φ).symm

/-! ## The scratch buffers and their blocks -/

/-- A buffer is its four blocks, where they are apart and fill it. -/
theorem cut {ℓ : Loc nD τ sig} (I : Fin 4 → Finset (Idx ℓ)) (hd : ∀ b b', b ≠ b' → Disjoint (I b) (I b')) (hc : Finset.univ.biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  iintro ⟨%f, H⟩
  iapply (show (bigSep Finset.univ fun b => ℓ ↦[I b]{fullShare} f : sProp 𝕄) ⊢ _ from
    bigSep_mono fun b _ => show (ℓ ↦[I b]{fullShare} f : sProp 𝕄) ⊢ iprop(∃ f : Buf (Elt F) ℓ, ℓ ↦[I b]{fullShare} f) from by iintro H; iexists f; iexact H)
  iapply (Entails.of_eq (Ring.pointsTo_blocks I hd hc f)); iexact H

/-- The index sets of the named blocks. -/
theorem xs_set (d : Fin 4) : (xsB d).view.set = (xsR d).set := View.set_slice_whole _ _
theorem rv_set (q : Fin 4) : (rvB q).view.set = (rvR q).set := View.set_slice_whole _ _
theorem ys_set (d : Fin 4) : (ysB d).view.set = (ysR d).set := View.set_slice_whole _ _
theorem st_set (q : Fin 4) : (stB q).view.set = (stR q).set := View.set_slice_whole _ _

/-- Different blocks of a scratch buffer are apart, and the four of them fill it. -/
theorem xs_disj (b b' : Fin 4) (h : b ≠ b') : Disjoint (xsR b).set (xsR b').set :=
  Ring.lead_disjoint (s := S2048x512) (0 : Fin 2) 512 (fun d : Fin 4 => (![512 * d.val, 0] : Fin 2 → Nat)) S512x512.size xs_inb (fun _ => rfl) rfl b b' h
theorem xs_cover : Finset.univ.biUnion (fun d => (xsR d).set) = Finset.univ :=
  Ring.lead_cover (s := S2048x512) (0 : Fin 2) 512 (fun d : Fin 4 => (![512 * d.val, 0] : Fin 2 → Nat)) S512x512.size xs_inb (fun _ => rfl)
    (fun j a ha => by fin_cases a <;> first | exact absurd rfl ha | rfl) rfl (fun a ha => by fin_cases a <;> first | exact absurd rfl ha | rfl) rfl
theorem ys_disj (b b' : Fin 4) (h : b ≠ b') : Disjoint (ysR b).set (ysR b').set :=
  Ring.lead_disjoint (s := S2048x1024) (0 : Fin 2) 512 (fun d : Fin 4 => (![512 * d.val, 0] : Fin 2 → Nat)) S512x1024.size ys_inb (fun _ => rfl) rfl b b' h
theorem ys_cover : Finset.univ.biUnion (fun d => (ysR d).set) = Finset.univ :=
  Ring.lead_cover (s := S2048x1024) (0 : Fin 2) 512 (fun d : Fin 4 => (![512 * d.val, 0] : Fin 2 → Nat)) S512x1024.size ys_inb (fun _ => rfl)
    (fun j a ha => by fin_cases a <;> first | exact absurd rfl ha | rfl) rfl (fun a ha => by fin_cases a <;> first | exact absurd rfl ha | rfl) rfl
theorem rv_disj (b b' : Fin 4) (h : b ≠ b') : Disjoint (rvR b).set (rvR b').set :=
  Ring.lead_disjoint (s := S4x512x512) (0 : Fin 3) 1 (fun q : Fin 4 => (![q.val, 0, 0] : Fin 3 → Nat)) S1x512x512.size rv_inb (fun j => by simp) rfl b b' h
theorem rv_cover : Finset.univ.biUnion (fun q => (rvR q).set) = Finset.univ :=
  Ring.lead_cover (s := S4x512x512) (0 : Fin 3) 1 (fun q : Fin 4 => (![q.val, 0, 0] : Fin 3 → Nat)) S1x512x512.size rv_inb (fun j => by simp)
    (fun j a ha => by fin_cases a <;> first | exact absurd rfl ha | rfl) rfl (fun a ha => by fin_cases a <;> first | exact absurd rfl ha | rfl) rfl
theorem st_disj (b b' : Fin 4) (h : b ≠ b') : Disjoint (stR b).set (stR b').set :=
  Ring.lead_disjoint (s := S4x512x1024) (0 : Fin 3) 1 (fun q : Fin 4 => (![q.val, 0, 0] : Fin 3 → Nat)) S1x512x1024.size st_inb (fun j => by simp) rfl b b' h
theorem st_cover : Finset.univ.biUnion (fun q => (stR q).set) = Finset.univ :=
  Ring.lead_cover (s := S4x512x1024) (0 : Fin 3) 1 (fun q : Fin 4 => (![q.val, 0, 0] : Fin 3 → Nat)) S1x512x1024.size st_inb (fun j => by simp)
    (fun j a ha => by fin_cases a <;> first | exact absurd rfl ha | rfl) rfl (fun a ha => by fin_cases a <;> first | exact absurd rfl ha | rfl) rfl

/-- The blocks by buffer: `scratch` with its four kinds of block apart. -/
def apart (c : Dev nD) : sProp 𝕄 :=
  iprop((bigSep Finset.univ fun d : Fin 4 => iprop(∃ f, ((c : Thread nD τ).loc cc0_scratch0) ↦[(xsR d).set]{fullShare} f))
    ∗ (bigSep Finset.univ fun q : Fin 4 => iprop(∃ f, ((c : Thread nD τ).loc cc0_scratch1) ↦[(rvR q).set]{fullShare} f))
    ∗ (bigSep Finset.univ fun d : Fin 4 => iprop(∃ f, ((c : Thread nD τ).loc cc0_scratch2) ↦[(ysR d).set]{fullShare} f))
    ∗ (bigSep Finset.univ fun q : Fin 4 => iprop(∃ f, ((c : Thread nD τ).loc cc0_scratch3) ↦[(stR q).set]{fullShare} f)))

/-- A block with unknown contents, as cells of its buffer. -/
theorem some_xs (c : Dev nD) (d : Fin 4) :
    (some_ c (xsB d) : sProp 𝕄) = iprop(∃ f, ((c : Thread nD τ).loc cc0_scratch0) ↦[(xsR d).set]{fullShare} f) := by
  rw [← xs_set]; rfl
theorem some_rv (c : Dev nD) (q : Fin 4) :
    (some_ c (rvB q) : sProp 𝕄) = iprop(∃ f, ((c : Thread nD τ).loc cc0_scratch1) ↦[(rvR q).set]{fullShare} f) := by
  rw [← rv_set]; rfl
theorem some_ys (c : Dev nD) (d : Fin 4) :
    (some_ c (ysB d) : sProp 𝕄) = iprop(∃ f, ((c : Thread nD τ).loc cc0_scratch2) ↦[(ysR d).set]{fullShare} f) := by
  rw [← ys_set]; rfl
theorem some_st (c : Dev nD) (q : Fin 4) :
    (some_ c (stB q) : sProp 𝕄) = iprop(∃ f, ((c : Thread nD τ).loc cc0_scratch3) ↦[(stR q).set]{fullShare} f) := by
  rw [← st_set]; rfl

/-- The scratch buffers, block by block, are the blocks buffer by buffer. -/
theorem scratch_eq (c : Dev nD) : (scratch c : sProp 𝕄) = apart c := by
  unfold scratch blocks apart
  rw [bigSep_sep', bigSep_sep', bigSep_sep', by_offset c (fun q => (some_ c (rvB q) : sProp 𝕄)), by_offset c (fun q => (some_ c (stB q) : sProp 𝕄))]
  simp only [some_xs, some_rv, some_ys, some_st]

/-- The scratch buffers that the launch hands over give the blocks, -/
theorem scratch_in (c : Dev nD) : (Pipeline.scopedRest cfg0.spec c : sProp 𝕄) ⊢ scratch c := by
  rw [show (Pipeline.scopedRest cfg0.spec c : sProp 𝕄) = _ from scopedRest0_eq c, scratch_eq]
  unfold apart
  exact BI.sep_mono (cut _ xs_disj xs_cover) (BI.sep_mono (cut _ rv_disj rv_cover) (BI.sep_mono (cut _ ys_disj ys_cover) (cut _ st_disj st_cover)))

/-- and the blocks give them back. -/
theorem scratch_out (m : (ℓ : Loc nD τ sig) → Buf (Elt F) ℓ) (c : Dev nD) : (scratch c : sProp 𝕄) ⊢ Pipeline.scopedRest cfg0.spec c := by
  rw [show (Pipeline.scopedRest cfg0.spec c : sProp 𝕄) = _ from scopedRest0_eq c, scratch_eq]
  unfold apart
  exact BI.sep_mono (Ring.pointsTo_blocks_join_exists _ xs_disj xs_cover (m _)) (BI.sep_mono (Ring.pointsTo_blocks_join_exists _ rv_disj rv_cover (m _))
    (BI.sep_mono (Ring.pointsTo_blocks_join_exists _ ys_disj ys_cover (m _)) (Ring.pointsTo_blocks_join_exists _ st_disj st_cover (m _))))

/-! ## The records set up -/

/-- The sixteen transfer semaphores of the call. -/
abbrev osem : Fin 4 × Fin 4 → SemLoc sig := fun k => .dma (dsem k.1 k.2)

/-- They are the semaphores that the call owns, each once. -/
theorem ownSemFacts : Pipeline.OwnSemFacts cfg0.spec osem := by decide

/-- Every window is held with its full share. -/
theorem share_eq (c : Dev nD) (w : Fin cfg0.W) : (dats m ρ 0 c).share w = fullShare := by unfold Dat.share; split <;> rfl

/-- Transfer cells are told apart by device, array of semaphores and place in it. -/
theorem x_inj {c c' a a' q q' : Fin 4} (h : xCell c a q = xCell c' a' q') : c = c' ∧ a = a' ∧ q = q' := by
  have h1 : c = c' := congrArg (fun g : GSem nD τ sig => g.1.1) h
  have h2 := congrArg (fun g : GSem nD τ sig => slotOf g.2) h
  simp only [slotOf_dsem] at h2
  have h3 := Option.some.inj h2
  exact ⟨h1, congrArg Prod.fst h3, congrArg Prod.snd h3⟩
/-- Barrier cells are told apart by their device. -/
theorem bar_inj {c c' : Fin 4} (h : barCell c = barCell c') : c = c' := congrArg (fun g : GSem nD τ sig => g.1.1) h
/-- A barrier cell is no transfer cell. -/
theorem bar_ne_x (c c' a q : Fin 4) : barCell c ≠ xCell c' a q := fun h => dma_ne_bar _ (congrArg Prod.snd h).symm

/-- The cells of the exchange are named once each. -/
theorem kcell_injective : Function.Injective kcell := by
  rintro ⟨c, k | ⟨a, q⟩⟩ ⟨c', k' | ⟨a', q'⟩⟩ h
  · rw [show c = c' from bar_inj h]
  · exact absurd h (bar_ne_x _ _ _ _)
  · exact absurd h.symm (bar_ne_x _ _ _ _)
  · obtain ⟨h1, h2, h3⟩ := x_inj h
    rw [show c = c' from h1, h2, h3]
/-- All cells of the exchange. -/
def cells : Finset (GSem nD τ sig) := Finset.univ.map ⟨kcell, kcell_injective⟩

/-- The permissions on device `c`'s own cells that concern the peer at offset `i + 1`, in five kinds. -/
abbrev tokOf (x : Dev nD × (Fin 3 × Fin 5)) : GSem nD τ sig × ℕ × Fin 4 := match x.2.2 with
  | 0 => (barCell x.1, 0, x.2.1.succ)
  | 1 => (xCell x.1 0 (x.1 + x.2.1.succ), 0, 0)
  | 2 => (xCell x.1 1 (x.1 + -x.2.1.succ), 0, 0)
  | 3 => (xCell x.1 2 (x.1 + x.2.1.succ), 0, 0)
  | 4 => (xCell x.1 3 (x.1 + -x.2.1.succ), 0, 0)

/-- Offsets from a device are told apart by where they lead. -/
theorem offset_inj {c : Fin 4} {i i' : Fin 3} (h : c + i.succ = c + i'.succ) : i = i' := by revert c i i'; decide
/-- So are offsets taken backwards. -/
theorem neg_offset_inj {c : Fin 4} {i i' : Fin 3} (h : c + -i.succ = c + -i'.succ) : i = i' := by revert c i i'; decide

/-- The permissions are named once each. -/
theorem tokOf_injective : Function.Injective tokOf := by
  rintro ⟨c, i, j⟩ ⟨c', i', j'⟩ h
  have h1 : c = c' := by
    have := congrArg (fun x : GSem nD τ sig × ℕ × Fin 4 => x.1.1.1) h
    fin_cases j <;> fin_cases j' <;> exact this
  subst h1
  have hc := congrArg (fun x : GSem nD τ sig × ℕ × Fin 4 => x.1) h
  have hd := congrArg (fun x : GSem nD τ sig × ℕ × Fin 4 => x.2.2) h
  fin_cases j <;> fin_cases j' <;> first
    | exact absurd hc (bar_ne_x _ _ _ _)
    | exact absurd hc.symm (bar_ne_x _ _ _ _)
    | exact absurd (x_inj hc).2.1 (by decide)
    | (have e : i = i' := offset_inj (c := c) (x_inj hc).2.2
       rw [e])
    | (have e : i = i' := neg_offset_inj (c := c) (x_inj hc).2.2
       rw [e])
    | (have e : i = i' := Fin.succ_inj.mp hd
       rw [e])
/-- All permissions of the exchange. -/
def permitSet : Finset (GSem nD τ sig × ℕ × Fin 4) := Finset.univ.map ⟨tokOf, tokOf_injective⟩

/-- The records with which the launch begins: of the pipeline, and of the exchange. -/
def u₀ : UU := (initOf (Pipeline.cells cfgs cellOf_inj) (Pipeline.launchToks cfgs cellOf_inj), initOf cells permitSet)

/-- The permissions on device `c`'s own cells, one offset at a time. -/
def own (c d : Fin 4) : sProp 𝕄 :=
  iprop(dutyTok ER (barCell c) 0 d ∗ dutyTok ER (xCell c 0 (c + d)) 0 0 ∗ dutyTok ER (xCell c 1 (c + -d)) 0 0
    ∗ dutyTok ER (xCell c 2 (c + d)) 0 0 ∗ dutyTok ER (xCell c 3 (c + -d)) 0 0)
/-- All permissions on device `c`'s own cells. -/
def toks (c : Dev nD) : sProp 𝕄 := iprop(own c 1 ∗ own c 2 ∗ own c 3)

/-- What the launch makes for device `c`: the state of its cells, its place at each, and the permissions on them. -/
def G (c : Dev nD) : sProp 𝕄 :=
  iprop((bigSep Finset.univ fun k : KI => roundState ER (sched m) (kcell (c, k)) 0)
    ∗ (bigSep Finset.univ fun k : KI => iprop(atPos ER (kcell (c, k)) 0 ∅ 0 ∗ reached ER (kcell (c, k)) 0)) ∗ toks c)
/-- What device `c` has of it once the permissions are dealt out. -/
def G' (c : Dev nD) : sProp 𝕄 := iprop(∃ K, ghost m K c)

/-- A family over three offsets, written out. -/
theorem three (Φ : Fin 3 → sProp 𝕄) : bigSep Finset.univ Φ = iprop(Φ 0 ∗ Φ 1 ∗ Φ 2) := bigSep_univ_eq_bigSepL [0, 1, 2] (by decide) (by decide) Φ
/-- A family over five places, written out. -/
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The first records of the exchange make every `G`. -/
theorem fund_cells : BI.own (ER (initOf cells permitSet)) ⊢ (|==> bigSep Finset.univ (G m) : sProp 𝕄) := by
  have hX (Φ : GSem nD τ sig → sProp 𝕄) : bigSep cells Φ = bigSep Finset.univ fun c : Dev nD => bigSep Finset.univ fun k : KI => Φ (kcell (c, k)) := by
    unfold cells; rw [bigSep_map, bigSep_univ_prod]; rfl
  have hT : bigSep permitSet (fun x => (dutyTok ER x.1 x.2.1 x.2.2 : sProp 𝕄)) = bigSep Finset.univ fun c : Dev nD => toks c := by
    unfold permitSet; rw [bigSep_map, bigSep_univ_prod]
    refine bigSep_congr fun c _ => ?_
    rw [bigSep_univ_prod, three, five, five, five]; rfl
  iintro HX
  imod (Rounds.fund ER (sched m) cells permitSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The transfer semaphores at zero, cell by cell. -/
theorem ownSems0_eq (c : Dev nD) :
    (Pipeline.ownSems0 osem c : sProp 𝕄) = bigSep Finset.univ fun k : Fin 4 × Fin 4 => semVal (xCell c k.1 k.2) 0 := rfl

/-- A family over the cells of a device: the barrier, and the transfers. -/
theorem by_cells (c : Dev nD) (Φ : GSem nD τ sig → sProp 𝕄) :
    (bigSep Finset.univ fun k : KI => Φ (kcell (c, k))) = iprop(Φ (barCell c) ∗ bigSep Finset.univ fun k : Fin 4 × Fin 4 => Φ (xCell c k.1 k.2)) := by
  rw [BI.bigSep_univ_sum, show (Finset.univ : Finset Unit) = {()} from rfl, BI.bigSep_singleton]; rfl

/-- A family over the transfer cells, told by offsets. -/
theorem rows (c : Dev nD) (Φ : GSem nD τ sig → sProp 𝕄) :
    (bigSep Finset.univ fun k : Fin 4 × Fin 4 => Φ (xCell c k.1 k.2)) = bigSep Finset.univ fun a : Fin 4 => bigSep Finset.univ fun d : Fin 4 => Φ (xCell c a (c + d)) := by
  rw [bigSep_univ_prod]
  exact bigSep_congr fun a _ => (by_offset c fun q => Φ (xCell c a q)).symm

/-- A device turns its semaphores at zero, and the state of its cells, into shared records. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (by_cells (F := F) c fun g => semVal g 0).symm) $$ [Hos Hus]
  · isplitl [Hus]
    · iapply (Entails.of_eq (unscopedSems0_eq c)); iexact Hus
    iapply (Entails.of_eq (ownSems0_eq c)); iexact Hos
  imod (show iprop((bigSep Finset.univ fun k : KI => semVal (kcell (c, k)) 0) ∗ bigSep Finset.univ fun k : KI => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the permissions it spends. -/
def kept (c : Dev nD) : sProp 𝕄 :=
  iprop((bigSep Finset.univ fun k : KI => atPos ER (kcell (c, k)) 0 ∅ 0) ∗ permits c 1 ∗ permits c 2 ∗ permits c 3)

/-- What all devices keep, sorted into places and permissions. -/
theorem kept_all : (bigSep Finset.univ fun c : Dev nD => (kept c : sProp 𝕄))
    = iprop((bigSep Finset.univ fun c : Dev nD => bigSep Finset.univ fun k : KI => atPos ER (kcell (c, k)) 0 ∅ 0)
        ∗ bigSep Finset.univ fun c : Dev nD => iprop(permits c 1 ∗ permits c 2 ∗ permits c 3)) := by
  unfold kept; rw [bigSep_sep']

theorem ghost_intro (K : Dev nD × KI → ℕ) (c : Dev nD) : iprop(records m K ∗ kept c) ⊢ G' m c := by
  unfold kept G' ghost
  rw [by_cells (F := F) c fun g => atPos ER g 0 ∅ 0, rows (F := F) c fun g => atPos ER g 0 ∅ 0]
  iintro ⟨#HR, ⟨HB, HX⟩, HP⟩
  iexists K
  isplitr; · iexact HR
  isplitl [HB]; · iexact HB
  isplitl [HX] <;> iassumption

/-- Each permission goes to the device that spends it. -/
theorem spread_one (d : Fin 4) : (bigSep Finset.univ fun c : Dev nD => (own c d : sProp 𝕄)) ⊢ bigSep Finset.univ fun c : Dev nD => permits c d := by
  unfold own permits
  rw [bigSep_sep', bigSep_sep', bigSep_sep', bigSep_sep', bigSep_sep', bigSep_sep', bigSep_sep', bigSep_sep',
    bigSep_univ_equiv (shift d) (fun c : Dev nD => (dutyTok ER (barCell c) 0 d : sProp 𝕄)),
    bigSep_univ_equiv (shift d) (fun c : Dev nD => (dutyTok ER (xCell c 1 (c + -d)) 0 0 : sProp 𝕄)),
    bigSep_univ_equiv (shift d) (fun c : Dev nD => (dutyTok ER (xCell c 3 (c + -d)) 0 0 : sProp 𝕄))]
  simp only [shift, Equiv.coe_fn_mk, add_neg_self]
  iintro H; iexact H
/-- The permissions of all devices, dealt out. -/
theorem spread : (bigSep Finset.univ fun c : Dev nD => (toks c : sProp 𝕄)) ⊢ bigSep Finset.univ fun c : Dev nD => iprop(permits c 1 ∗ permits c 2 ∗ permits c 3) := by
  unfold toks
  rw [bigSep_sep', bigSep_sep', bigSep_sep', bigSep_sep']
  exact BI.sep_mono (spread_one 1) (BI.sep_mono (spread_one 2) (spread_one 3))

/-- A shared record serves every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices together turn their records into `ghost`. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KI => iprop(∃ κ : ℕ, cellInv ER (sched m) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (sched m) κ (kcell ck) : sProp 𝕄))) $$ HI
  icases HK with ⟨%K, #HI⟩
  ihave Htk := (spread (F := F)) $$ Htok
  iapply (with_persistent (R := records m K) fun c _ => ghost_intro m K c)
  isplitr
  · unfold records; isplitl; · iexact HI
    iexact HR
  · iapply (Entails.of_eq kept_all.symm)
    isplitl [Hat] <;> iassumption

/-- The set-up of the exchange across the devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe each cell in all -/

/-- What a list of debts owes one cell is the sum of its entries for that cell. -/
theorem owing_at (l : List (GSem nD τ sig × ℕ)) (g : GSem nD τ sig) :
    owing l g () = (l.map fun x => if g = x.1 then x.2 else 0).sum := by
  induction l with
  | nil => rfl
  | cons x l ih =>
    unfold owing
    rw [Pi.add_apply, Finsupp.add_apply, ih, tallyAt_apply, List.map_cons, List.sum_cons, Nat.add_comm]
    congr 1
    by_cases h : g = x.1
    · rw [if_pos ⟨h, rfl⟩, if_pos h]
    · rw [if_neg fun h' => h h'.1, if_neg h]

/-- Equality of cells, in terms that can be decided. -/
theorem x_eq_iff (c c' a a' q q' : Fin 4) : (xCell c a q = xCell c' a' q') = (c = c' ∧ a = a' ∧ q = q') :=
  propext ⟨x_inj, fun ⟨h1, h2, h3⟩ => by rw [h1, h2, h3]⟩
theorem bar_eq_iff (c c' : Fin 4) : (barCell c = barCell c') = (c = c') := propext ⟨bar_inj, fun h => by rw [h]⟩
theorem bar_x (c c' a q : Fin 4) : (barCell c = xCell c' a q) = False := eq_false (bar_ne_x c c' a q)
theorem x_bar (c c' a q : Fin 4) : (xCell c' a q = barCell c) = False := eq_false fun h => bar_ne_x c c' a q h.symm

/-- The devices owe each barrier three signals, -/
theorem total_bar (c : Fin 4) : ∑ e : Fin 4, owing (debt e) (barCell c) () = 3 := by
  simp only [owing_at, debt, debtX, debtY, List.map_cons, List.map_nil, List.sum_cons, List.sum_nil, bar_eq_iff, bar_x, if_false]
  revert c; decide
/-- each receive cell of the first round one block of tokens, -/
theorem total_x (c d : Fin 4) (hd : d ≠ 0) : ∑ e : Fin 4, owing (debt e) (xCell c 1 (c + d)) () = NX := by
  simp only [owing_at, debt, debtX, debtY, List.map_cons, List.map_nil, List.sum_cons, List.sum_nil, x_eq_iff, x_bar, if_false]
  generalize NX = N
  generalize NY = N'
  rw [Fin.sum_univ_four]
  fin_cases c <;> fin_cases d <;> first | exact absurd rfl hd | simp
/-- and each receive cell of the second one block of results. -/
theorem total_y (c d : Fin 4) (hd : d ≠ 0) : ∑ e : Fin 4, owing (debt e) (xCell c 3 (c + d)) () = NY := by
  simp only [owing_at, debt, debtX, debtY, List.map_cons, List.map_nil, List.sum_cons, List.sum_nil, x_eq_iff, x_bar, if_false]
  generalize NX = N
  generalize NY = N'
  rw [Fin.sum_univ_four]
  fin_cases c <;> fin_cases d <;> first | exact absurd rfl hd | simp

/-- The credit for a cell is what the devices owe it in all. -/
theorem launch_at (g : GSem nD τ sig) (n : ℕ) (h : ∑ e : Fin 4, owing (debt e) g () = n) :
    tallyOn g (launchCredit (Pipeline.owing fun c => owing (debt c)) 0 g) = (tallyAt g () n : CellTallies nD τ sig Unit) := by
  unfold tallyAt; refine congrArg _ (Finsupp.ext fun u => ?_); cases u
  rw [Pipeline.launchCredit_owing, Finsupp.single_eq_same]; exact h

/-- The credits of device `c`: its barrier, and an arrival from each peer in each round. -/
theorem creds (c : Dev nD) :
    (Pipeline.launchCred (fun c => owing (debt c)) c : sProp 𝕄) ⊢ iprop(cred (tallyAt (barCell c) () 3) ∗ arrivals c 1 ∗ arrivals c 2 ∗ arrivals c 3) := by
  unfold Pipeline.launchCred
  rw [bigSep_univ_at _ (SemLoc.reg barS), launch_at _ 3 (total_bar c)]
  refine sep_mono_right ?_
  refine (bigSep_subset (t := Finset.univ.map ⟨osem, ownSemFacts.inj⟩) fun s hs => ?_).trans ?_
  · obtain ⟨k, -, rfl⟩ := Finset.mem_map.mp hs
    exact Finset.mem_erase.mpr ⟨dma_ne_bar _, Finset.mem_univ _⟩
  rw [bigSep_map]
  refine (Entails.of_eq (rows (F := F) c fun g => cred (tallyOn g (launchCredit (Pipeline.owing fun c => owing (debt c)) 0 g)))).trans ?_
  simp only [four]
  unfold arrivals
  rw [launch_at _ NX (total_x c 1 (by decide)), launch_at _ NX (total_x c 2 (by decide)), launch_at _ NX (total_x c 3 (by decide)),
    launch_at _ NY (total_y c 1 (by decide)), launch_at _ NY (total_y c 2 (by decide)), launch_at _ NY (total_y c 3 (by decide))]
  iintro ⟨-, ⟨-, x1, x2, x3⟩, -, -, y1, y2, y3⟩
  isplitl [x1 y1]; · isplitl [x1] <;> iassumption
  isplitl [x2 y2]; · isplitl [x2] <;> iassumption
  isplitl [x3] <;> iassumption

/-! ## The conditions of the run -/

/-- The set-up and the credits are `start`. -/
theorem start_intro (c : Dev nD) :
    iprop(Pipeline.unscopedRestP Pipeline.Prefetch.none cfg0.spec c (fun b => m ((c : Thread nD τ).loc b)) ∗ levAts L lv
        ∗ Pipeline.launchCred (fun c => owing (debt c)) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- The launch gives what the grid step begins with, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_in c); iexact Hr

/-- and what it ends with gives the semaphores and the scratch back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  rw [← rows (F := F) c fun g => semVal g 0]
  iintro ⟨Hr, HX, HB⟩
  isplitl [HB]; · iexact HB
  isplitl [HX]; · iapply (Entails.of_eq (ownSems0_eq c).symm); iexact HX
  iapply (scratch_out m c); iexact Hr

/-- The pipeline's own semaphores lie below every cell of the exchange. -/
theorem stage_low (w : Fin cfg0.W) (s : Fin (cfg0.win w).nbuf) : levOf (.dma ((cfg0.win w).sem s)) = 0 := by
  revert w s; decide

/-- The pipeline may wait on its own semaphores whatever the device owes. -/
theorem waits (c : Dev nD) : (levAts L lv : sProp 𝕄) ⊢ Pipeline.cellsWaits cfgs (dats m ρ) () 0 c :=
  Pipeline.cellsWaits_intro cfgs (dats m ρ) () 0 c fun w s t => by
    have hlow := stage_low w s
    rcases t with ⟨_ | _, ht⟩
    · refine mayWait c _ (debt c) ?_
      rw [hlow]
      unfold debt
      simp only [List.forall_mem_cons, levOf_bar]
      exact ⟨by decide, by decide, by decide, fun x hx => ⟨(debtX_above c x hx).1, Nat.lt_of_le_of_lt (Nat.zero_le _) (debtX_above c x hx).2⟩⟩
    · exact mayWait c _ [] nil_above

/-! ## The run -/

/-- A window's array when the call is over. -/
def finalA (c : Dev nD) (w : Fin cfg0.W) : Buf (Elt F) ((cfg0.win w).arr.view.loc (c : Thread nD τ)) := (dats m ρ 0 c).arrAt w cfg0.N

/-- What holds of the memory when the call is over: every window has its final array. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero the four devices' program terminates, with every array at the contents
    computed for it and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => owing (debt c)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Plain.lean ====
/-
# The run of the reference

The reference is a straight line of array operations on one device. It is named here in the shape the comparison with the
kernel uses: the mask and gate of every token, then the sum over the sixteen experts.
-/
module

public import Idealize.ShloMosaic.Lib.StableHlo.Run
public import Idealize.ShloMosaic.Lib.Quiescent
public import proofs.«01_k».proof.Proof.Gen.ReferenceIdeal

@[expose] public section

noncomputable section

namespace Cert.Plain

open Cert.ReferenceIdeal Cert.ReferenceIdeal.Gen
open Idealize.ShloMosaic Idealize.ShloMosaic.TcCoe Idealize.ShloMosaic.StableHlo Idealize.SL.Sem

variable {F : FTy → Type} [FloatOps F]

/-- The router's scores. -/
def scores (x : FVec F S4096x512 .bf16) (rw : FVec F S512x16 .bf16) : FVec F S4096x16 .f32 :=
  Host.dotGeneral dot_S4096x512_S512x16_S4096x16_1_0_0_1_n_n none (extf .f32 x bitsLt_bf16_f32) (extf .f32 rw bitsLt_bf16_f32)
/-- The exponentials of the scores less their row's greatest. -/
def expo (s : FVec F S4096x16 .f32) : FVec F S4096x16 .f32 :=
  Host.exp (subf s (broadcastInDim S4096x16 ![0, 1] bcast_S4096x1_S4096x16_0_1 (broadcastInDim S4096x1 ![0] bcast_S4096_S4096x1_0
    (Host.reduce FloatOps.maximumf s (constant S_ .f32 0xFF800000#32) reducesTo_S4096x16_S4096_d1 h_S_))))
/-- Each exponential over its row's sum. -/
def share (e : FVec F S4096x16 .f32) : FVec F S4096x16 .f32 :=
  Host.divf e (broadcastInDim S4096x16 ![0, 1] bcast_S4096x1_S4096x16_0_1 (broadcastInDim S4096x1 ![0] bcast_S4096_S4096x1_0
    (Host.reduceAdd e (constant S_ .f32 0x00000000#32) reducesTo_S4096x16_S4096_d1 h_S_)))
/-- Which expert each token is routed to, as a mask. -/
def routed (rt : IVec S4096x1 32) : IVec S4096x16 1 :=
  cmpi .eq (broadcastInDim S4096x16 ![0, 1] bcast_S4096x1_S4096x16_0_1 rt)
    (broadcastInDim S4096x16 ![0, 1] bcast_S1x16_S4096x16_0_1 (broadcastInDim S1x16 ![1] bcast_S16_S1x16_1 (iotaInDim S16 32 0)))
/-- The probability of the chosen expert, zero at the others. -/
def chosen (rt : IVec S4096x1 32) (p : FVec F S4096x16 .f32) : FVec F S4096x16 .f32 :=
  select (routed rt) p (broadcastInDim S4096x16 ![] bcast_S_S4096x16 (constant S_ .f32 0x00000000#32))
/-- The shared expert plus the sum over the experts. -/
def total (x : FVec F S4096x512 .bf16) (g : FVec F S4096x16 .f32) (ew : FVec F S16x512x1024 .bf16) (sw : FVec F S512x1024 .bf16) : FVec F S4096x1024 .f32 :=
  addf (Host.dotGeneral dot_S4096x512_S512x1024_S4096x1024_1_0_0_1_n_n none (extf .f32 x bitsLt_bf16_f32) (extf .f32 sw bitsLt_bf16_f32))
    (Host.reduceAdd (mulf (broadcastInDim S4096x16x1024 ![0, 1, 2] bcast_S4096x16x1_S4096x16x1024_0_1_2
        (broadcastInDim S4096x16x1 ![0, 1] bcast_S4096x16_S4096x16x1_0_1 g))
      (Host.dotGeneral dot_S4096x512_S16x512x1024_S4096x16x1024_1_1_0_02_n_n none (extf .f32 x bitsLt_bf16_f32) (extf .f32 ew bitsLt_bf16_f32)))
      (constant S_ .f32 0x00000000#32) reducesTo_S4096x16x1024_S4096x1024_d1 h_S_)
/-- The reference's result. -/
def out (x : FVec F S4096x512 .bf16) (rw : FVec F S512x16 .bf16) (rt : IVec S4096x1 32) (ew : FVec F S16x512x1024 .bf16) (sw : FVec F S512x1024 .bf16) :
    FVec F S4096x1024 .f32 :=
  total x (chosen rt (share (expo (scores x rw)))) ew sw

/-- The operations, in order. -/
abbrev ops : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S4096x512_S512x16_S4096x16_1_0_0_1_n_n none l r),
    nullary main_cst (constant S_ .f32 0xFF800000#32),
    binary main_v2 main_cst main_v3 (fun x v => Host.reduce FloatOps.maximumf x v reducesTo_S4096x16_S4096_d1 h_S_),
    unary main_v3 main_v4 (broadcastInDim S4096x1 ![0] bcast_S4096_S4096x1_0),
    unary main_v4 main_v5 (broadcastInDim S4096x16 ![0, 1] bcast_S4096x1_S4096x16_0_1),
    binary main_v2 main_v5 main_v6 (subf),
    unary main_v6 main_v7 (Host.exp),
    nullary main_cst_0 (constant S_ .f32 0x00000000#32),
    binary main_v7 main_cst_0 main_v8 (fun x v => Host.reduceAdd x v reducesTo_S4096x16_S4096_d1 h_S_),
    unary main_v8 main_v9 (broadcastInDim S4096x1 ![0] bcast_S4096_S4096x1_0),
    unary main_v9 main_v10 (broadcastInDim S4096x16 ![0, 1] bcast_S4096x1_S4096x16_0_1),
    binary main_v7 main_v10 main_v11 (Host.divf),
    unary main_arg4 main_v12 (extf .f32 · bitsLt_bf16_f32),
    binary main_v0 main_v12 main_v13 (fun l r => Host.dotGeneral dot_S4096x512_S512x1024_S4096x1024_1_0_0_1_n_n none l r),
    nullary main_v14 (iotaInDim S16 32 0),
    unary main_v14 main_v15 (broadcastInDim S1x16 ![1] bcast_S16_S1x16_1),
    unary main_arg2 main_v16 (broadcastInDim S4096x16 ![0, 1] bcast_S4096x1_S4096x16_0_1),
    unary main_v15 main_v17 (broadcastInDim S4096x16 ![0, 1] bcast_S1x16_S4096x16_0_1),
    binary main_v16 main_v17 main_v18 (cmpi .eq),
    nullary main_cst_1 (constant S_ .f32 0x00000000#32),
    TRef.unary (.of main_cst_1) (.of main_call0_v0) id,
    TRef.unary (.of main_call0_v0) (.of main_call0_v1) (broadcastInDim S4096x16 ![] bcast_S_S4096x16),
    TRef.ternary (.of main_v18) (.of main_v11) (.of main_call0_v1) (.of main_v19) select,
    unary main_arg3 main_v20 (extf .f32 · bitsLt_bf16_f32),
    binary main_v0 main_v20 main_v21 (fun l r => Host.dotGeneral dot_S4096x512_S16x512x1024_S4096x16x1024_1_1_0_02_n_n none l r),
    unary main_v19 main_v22 (broadcastInDim S4096x16x1 ![0, 1] bcast_S4096x16_S4096x16x1_0_1),
    unary main_v22 main_v23 (broadcastInDim S4096x16x1024 ![0, 1, 2] bcast_S4096x16x1_S4096x16x1024_0_1_2),
    binary main_v23 main_v21 main_v24 (mulf),
    nullary main_cst_2 (constant S_ .f32 0x00000000#32),
    binary main_v24 main_cst_2 main_v25 (fun x v => Host.reduceAdd x v reducesTo_S4096x16x1024_S4096x1024_d1 h_S_),
    binary main_v13 main_v25 main_v26 (addf) ]

set_option maxRecDepth 8000 in
/-- The reference is its operations in order. -/
theorem main_eq (c : Dev nD) : main (F := F) c = seq ops := rfl

/-- The operations leave the result in its array, -/
theorem out_eq (V : Valuation τ sig (Elt F)) : after ops V (main_v26 : DevRef τ sig)
    = out (V (main_arg0 : DevRef τ sig)) (V (main_arg1 : DevRef τ sig)) (V (main_arg2 : DevRef τ sig)) (V (main_arg3 : DevRef τ sig)) (V (main_arg4 : DevRef τ sig)) := by
  after_results
  rfl
/-- and every argument as it was. -/
theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results
theorem arg3_eq (V : Valuation τ sig (Elt F)) : after ops V (main_arg3 : DevRef τ sig) = V (main_arg3 : DevRef τ sig) := by after_results
theorem arg4_eq (V : Valuation τ sig (Elt F)) : after ops V (main_arg4 : DevRef τ sig) = V (main_arg4 : DevRef τ sig) := by after_results

/-- The reference has no scratch buffers and no semaphores of its own. -/
theorem scopedRefs_eq : (Finset.univ.filter fun b : Ref sig .tc => b.isScoped) = ∅ := by decide
theorem scopedSems_eq : (Finset.univ.filter fun sm : SemLoc sig => sm.isScoped .tc) = ∅ := by decide

/-- Every operation works on arrays of the device. -/
theorem ops_sub : (ops : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., unary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., binary_bufs_sub .., binary_bufs_sub ..⟩

/-- The reference runs, its result ends at `out` of its arguments, and the arguments end unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c main_v26).trans (out_eq _), (h c main_arg0).trans (arg0_eq _), (h c main_arg1).trans (arg1_eq _),
      (h c main_arg2).trans (arg2_eq _), (h c main_arg3).trans (arg3_eq _), (h c main_arg4).trans (arg4_eq _)⟩)
    (run_seq scopedRefs_eq scopedSems_eq defs main (fun _ => ops) main_eq (fun _ => ops_sub) m ρ)

/-- Its frame: there is no semaphore, so every counter is zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩) (run_main m ρ)

end Cert.Plain

end
-- ==== Proof.Frames.lean ====
/-
# The frames, and what the kernel's result array ends at

Every claim about a run is read off `run_main` and the reference's run. The kernel and its idealization have the same
text, so the kernel's frame is the run at the machine's floats.
-/
module

public import proofs.«01_k».proof.Proof.Launch
public import proofs.«01_k».proof.Proof.Plain
public import proofs.«01_k».proof.Proof.Gen.Kernel
public import proofs.«01_k».proof.Defs

@[expose] public section

noncomputable section

namespace Cert.Exchange

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- An argument's array ends as it started. -/
theorem finalA_in (c : Dev nD) (w : Fin cfg0.W) (h : (cfg0.win w).isOut = false) :
    finalA m ρ c w = m ((cfg0.win w).arr.view.loc (c : Thread nD τ)) := (dats m ρ 0 c).arrAt_in w h _

/-- The result's array ends at the block computed. -/
theorem finalA_result (c : Dev nD) : finalA m ρ c (5 : Fin 6) = result m c := by
  have h : (win0_5.blk (0 : Fin 1)).view.read (Elt F) (finalA m ρ c (5 : Fin 6)) = result m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from flush0_5 _, if_pos rfl]
    exact View.read_write_univ _ _
  have hz : (fun a => (win0_5.index (0 : Fin 1)) a * main_v1.ty.shape.size a) = fun _ => 0 := funext fun a => by fin_cases a <;> decide
  exact (Memref.read_access_unit_zero (Elt F) main_v1 hz (fun a => by fin_cases a <;> decide) _).symm.trans h

/-- The staged arguments are the devices' arrays. -/
theorem inX_eq (c : Dev nD) : inX m c = m ((c : Thread nD τ).loc main_arg0) :=
  Memref.read_access_unit_zero (Elt F) main_arg0 (funext fun a => by fin_cases a <;> decide) (fun a => by fin_cases a <;> decide) _
theorem inRW_eq (c : Dev nD) : inRW m c = m ((c : Thread nD τ).loc main_arg1) :=
  Memref.read_access_unit_zero (Elt F) main_arg1 (funext fun a => by fin_cases a <;> decide) (fun a => by fin_cases a <;> decide) _
theorem inRt_eq (c : Dev nD) : inRt m c = m ((c : Thread nD τ).loc main_arg2) :=
  Memref.read_access_unit_zero (Elt F) main_arg2 (funext fun a => by fin_cases a <;> decide) (fun a => by fin_cases a <;> decide) _
theorem inEW_eq (c : Dev nD) : inEW m c = m ((c : Thread nD τ).loc main_arg3) :=
  Memref.read_access_unit_zero (Elt F) main_arg3 (funext fun a => by fin_cases a <;> decide) (fun a => by fin_cases a <;> decide) _
theorem inSW_eq (c : Dev nD) : inSW m c = m ((c : Thread nD τ).loc main_arg4) :=
  Memref.read_access_unit_zero (Elt F) main_arg4 (funext fun a => by fin_cases a <;> decide) (fun a => by fin_cases a <;> decide) _

/-- The arguments of a final state, from the arrays' contents. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

/-- The frame over any float values. -/
theorem frame : θ_run defs (onTc (τ := τ) (main (F := F))) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨args_kept m ρ h.1, h.2⟩) (run_main m ρ)

/-- The frame of the idealized kernel. -/
theorem frame_ideal : Cert.quiescent_KernelIdeal := fun m ρ _ => frame m ρ

/-- The two programs' tables of bodies are one table, read one label at a time. -/
theorem defs₀_eq : @Cert.Kernel.defs₀ F _ _ = @Cert.KernelIdeal.defs₀ F _ _ := by
  unfold Cert.Kernel.defs₀ Cert.KernelIdeal.defs₀
  refine congrArg _ (funext fun t => funext fun s => ?_)
  obtain ⟨_ | n, h⟩ := t
  · rfl
  · exact absurd h (by simp)
/-- The two printings of the kernel define the same programs. -/
theorem defs_eq : @Cert.Kernel.defs F _ _ = @Cert.KernelIdeal.defs F _ _ := congrArg (Pipeline.defs Cert.KernelIdeal.pcfgs) defs₀_eq
/-- The frame of the kernel, from the run of its idealized text at machine floats. -/
theorem frame_kernel : Cert.quiescent_Kernel := fun m ρ _ => by
  have key : ∀ D, D = @Cert.KernelIdeal.defs Bits _ _ → θ_run D (onTc (τ := τ) (main (F := Bits))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 := by
    rintro _ rfl; exact frame (F := Bits) m ρ
  exact key _ defs_eq
/-- The frame of the reference. -/
theorem frame_plain : Cert.quiescent_ReferenceIdeal := fun m ρ _ => Cert.Plain.frame m ρ
end Cert.Exchange

end
-- ==== Proof.Compare.lean ====
/-
# The claims that name the precondition

The frames under the precondition, and the comparison of the two programs from the equation of their results.
-/
module

public import proofs.«01_k».proof.Proof.Frames

@[expose] public section

noncomputable section

namespace Cert.Exchange

open Cert.KernelIdeal Cert.KernelIdeal.Gen
open Idealize.ShloMosaic Idealize.ShloMosaic.TcCoe Idealize.SL.Sem

/-- The conditions stated of the precondition's operations. -/
theorem pre_facts : Cert.Pre_servable_KernelIdeal.Facts where
  bcast_S_S1024x512 := by decide
  reducesTo_S1024x512_S_d0_1 := by decide
  bcast_S_S512x16 := by decide
  reducesTo_S512x16_S_d0_1 := by decide
  bcast_S_S1024x1 := by decide
  reducesTo_S1024x1_S_d0_1 := by decide
  h_S_ := by decide
  bcast_S16_S1x16_1 := by decide
  bcast_S1024x1_S1024x16_0_1 := by decide
  bcast_S1x16_S1024x16_0_1 := by decide
  natLt_1_32 := by decide
  reducesTo_S1024x16_S16_d0 := by decide
  bcast_S_S16 := by decide
  reducesTo_S16_S_d0 := by decide
/-- The same, at the whole arrays. -/
theorem pre_facts_whole : Cert.Pre_servable_ReferenceIdeal.Facts where
  bcast_S_S4096x512 := by decide
  reducesTo_S4096x512_S_d0_1 := by decide
  bcast_S_S512x16 := by decide
  reducesTo_S512x16_S_d0_1 := by decide
  bcast_S_S4096x1 := by decide
  reducesTo_S4096x1_S_d0_1 := by decide
  h_S_ := by decide
  bcast_S16_S1x16_1 := by decide
  bcast_S4096x1_S4096x16_0_1 := by decide
  bcast_S1x16_S4096x16_0_1 := by decide
  natLt_1_32 := by decide
  reducesTo_S4096x16_S16_d0 := by decide
  bcast_S_S16 := by decide
  reducesTo_S16_S_d0 := by decide

/-- The kernel's frame, under the precondition. -/
theorem frame_ideal_pre : Cert.quiescent_KernelIdeal_pre_servable_KernelIdeal (hPre_servable_KernelIdeal := pre_facts) :=
  fun m ρ _ => frame m ρ
/-- The reference's frame, under the precondition. -/
theorem frame_plain_pre : Cert.quiescent_ReferenceIdeal_pre_servable_ReferenceIdeal (hPre_servable_ReferenceIdeal := pre_facts_whole) :=
  fun m ρ _ => Cert.Plain.frame m ρ

/-- The comparison of the two programs, given that each device's block is its block of the reference's result. -/
theorem algebraic
    (main_eq : ∀ (m : (ℓ : Loc nD τ sig) → Buf (Elt Ideal) ℓ) (c : Dev nD) (x rw rt ew sw),
      Cert.Pre_KernelIdeal_servable_KernelIdeal (hPre_servable_KernelIdeal := pre_facts) m →
      (∀ c : Dev nD, inX m c = Layout.block ⟨2, ![1024, 512]⟩ ⟨2, ![4096, 512]⟩ 0 4 c x ∧ inRW m c = rw
        ∧ inRt m c = Layout.block ⟨2, ![1024, 1]⟩ ⟨2, ![4096, 1]⟩ 0 4 c rt
        ∧ inEW m c = Layout.block ⟨3, ![4, 512, 1024]⟩ ⟨3, ![16, 512, 1024]⟩ 0 4 c ew ∧ inSW m c = sw) →
      result m c = Layout.block ⟨2, ![1024, 1024]⟩ ⟨2, ![4096, 1024]⟩ 0 4 c (Cert.Plain.out (F := Ideal) x rw rt ew sw)) :
    Cert.algebraic_KernelIdeal_ReferenceIdeal_pre_servable_KernelIdeal (hPre_servable_KernelIdeal := pre_facts) := by
  intro m ρ m' ρ' hpre hagree
  refine ⟨_, ?_, (θ_run Cert.ReferenceIdeal.defs _ _).mono (fun _ h => h 0) (Cert.Plain.run_main (F := Ideal) m' ρ')⟩
  refine (θ_run defs _ _).mono (fun _ h c => ⟨((h.1 c (5 : Fin 6)).trans (finalA_result m ρ c)).trans ?_, args_kept m ρ h.1 c⟩) (run_main (F := Ideal) m ρ)
  refine main_eq m c _ _ _ _ _ hpre fun c => ?_
  rw [inX_eq, inRW_eq, inRt_eq, inEW_eq, inSW_eq]
  exact hagree c

end Cert.Exchange

end
-- ==== Proof.Words.lean ====
/-
# Words and one-hot entries

What the kernel computes of a token's route word: the bits it widens to floats, and the row of the exchanged buffer at
which the token's expert on this device begins.
-/
module

public import Idealize.ShloMosaic.Lib.Pointwise
public import Idealize.ShloMosaic.Lib.WordArith
public import proofs.«01_k».proof.Proof.Protocol

@[expose] public section

noncomputable section

namespace Cert.Exchange

open Cert.KernelIdeal Cert.KernelIdeal.Gen
open Idealize.ShloMosaic

/-- A comparison for equality, widened and read as a float, is the indicator of equality. -/
theorem indicator_eq {φ : FTy} (a b : BitVec 32) :
    (FloatOps.sitofp φ (BitVec.setWidth 32 (IntOp.cmpi .eq a b)) : Ideal φ) = if a = b then (1 : EReal) else 0 := by
  show (((BitVec.setWidth 32 (BitVec.ofBool (decide (a = b)))).toInt : ℝ) : EReal) = _
  by_cases h : a = b <;> simp [h]

/-- A comparison of two small numbers for order, widened and read as a float, is the indicator of the order. -/
theorem indicator_lt {φ : FTy} (a b : ℕ) (ha : a < 2 ^ 31) (hb : b < 2 ^ 31) :
    (FloatOps.sitofp φ (BitVec.setWidth 32 (IntOp.cmpi .slt (BitVec.ofNat 32 a) (BitVec.ofNat 32 b))) : Ideal φ)
      = if a < b then (1 : EReal) else 0 := by
  show (((BitVec.setWidth 32 (BitVec.ofBool ((BitVec.ofNat 32 a).slt (BitVec.ofNat 32 b)))).toInt : ℝ) : EReal) = _
  have e : (BitVec.ofNat 32 a).slt (BitVec.ofNat 32 b) = decide (a < b) := by
    rw [BitVec.slt_eq_decide, WordArith.toInt_ofNat_small a ha, WordArith.toInt_ofNat_small b hb]
    simp
  rw [e]
  by_cases h : a < b <;> simp [h]

/-- The remainder by four with a nonnegative result, as the kernel writes it. -/
def modulo (w : BitVec 32) : BitVec 32 :=
  let n := Scalar.select (Scalar.cmpi .eq 4#32 0#32) 1#32 4#32
  let q := IntOp.remsi .vector w n
  Scalar.select (IntOp.andi (IntOp.xori (IntOp.cmpi .slt q 0#32) (Scalar.cmpi .slt n 0#32)) (IntOp.cmpi .ne q 0#32)) (IntOp.addi q n) q

/-- The quotient by four rounded down, as the kernel writes it. -/
def quarter (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 4#32 0#32)) (Scalar.extui (Scalar.cmpi .slt 4#32 0#32))))
      (IntOp.cmpi .ne (IntOp.remsi .vector w 4#32) 0#32))
    (IntOp.subi (IntOp.divsi .vector w 4#32) 1#32) (IntOp.divsi .vector w 4#32)

/-- The first row kept for the expert that the word `r` names, on the device numbered `v`. -/
def firstRow (v r : BitVec 32) : BitVec 32 :=
  IntOp.addi (IntOp.muli (modulo (IntOp.subi (quarter r) v)) 512#32) (IntOp.muli (modulo r) 128#32)

/-- That row as a number: 512 rows for each device on from this one, 128 for each of its experts. -/
theorem first_row_eq (c : Dev nD) (k : Fin 16) :
    firstRow (me c) (BitVec.ofNat 32 k.val) = BitVec.ofNat 32 ((k.val / 4 + 4 - c.val) % 4 * 512 + k.val % 4 * 128) := by
  revert c k
  decide

/-- The kernel's one-hot entry of a token at a row, by the token's word and its place among the tokens of its expert. -/
theorem slots_word (rt : IVec S1024x1 32) (p : FVec Ideal S1024x1 .f32) (v : BitVec 32) (i : Fin 1024) (j : Fin 2048) :
    k0_pay10 rt p (Scalar.select (Scalar.cmpi .eq 4#32 0#32) 1#32 4#32) (k0_pay6 v rt) (k0_pay7 v rt) (k0_pay8 v rt) k0_pay9 (ix2 i j)
      = if BitVec.ofNat 32 j.val = (if p (ix2 i 0) < Ideal.ofBits .f32 0x43000000#32 then
          IntOp.addi (firstRow v (rt (ix2 i 0))) (FloatOps.fptosi 32 (p (ix2 i 0))) else 4096#32) then (1 : EReal) else 0 := by
  rw [← indicator_eq (φ := .f32)]
  pointwise [k0_pay10, k0_pay9, k0_pay8, k0_pay7, k0_pay6]
  rfl

end Cert.Exchange

end
-- ==== Proof.Slots.lean ====
/-
# The rows that tokens take

Each token of a device takes one row of the exchanged buffer: the row where its expert's rows begin, plus the number of
earlier tokens of the same expert. While no expert is named too often, no two tokens take one row.
-/
module

public import proofs.«01_k».proof.Proof.Words

@[expose] public section

noncomputable section

namespace Cert.Exchange

open Cert.KernelIdeal Cert.KernelIdeal.Gen
open Idealize.ShloMosaic
open scoped BigOperators

/-- The earlier tokens of a token's expert. -/
def earlier (rt : IVec S1024x1 32) (i : Fin 1024) : Finset (Fin 1024) :=
  Finset.univ.filter fun j => j < i ∧ rt (ix2 j 0) = rt (ix2 i 0)

/-- The routes a device can serve: every token names one of the sixteen experts, and has fewer than 128 earlier tokens of
    its expert. -/
structure Fits (rt : IVec S1024x1 32) : Prop where
  named : ∀ i : Fin 1024, (rt (ix2 i 0)).toNat < 16
  room : ∀ i : Fin 1024, (earlier rt i).card < 128

/-- The expert that a token names. -/
def Fits.expert {rt : IVec S1024x1 32} (h : Fits rt) (i : Fin 1024) : Fin 16 := ⟨(rt (ix2 i 0)).toNat, h.named i⟩

/-- A route word is the number of its expert. -/
theorem Fits.word {rt : IVec S1024x1 32} (h : Fits rt) (i : Fin 1024) : rt (ix2 i 0) = BitVec.ofNat 32 (h.expert i).val := by
  simp [Fits.expert]

/-- Small numbers are told apart by their words. -/
theorem word_inj {a b : ℕ} (ha : a < 2 ^ 31) (hb : b < 2 ^ 31) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- Two tokens have the same route word when they name the same expert. -/
theorem Fits.same {rt : IVec S1024x1 32} (h : Fits rt) {i j : Fin 1024} : rt (ix2 i 0) = rt (ix2 j 0) ↔ h.expert i = h.expert j := by
  rw [h.word i, h.word j]
  constructor
  · intro e
    exact Fin.ext (word_inj (by have := (h.expert i).isLt; omega) (by have := (h.expert j).isLt; omega) e)
  · intro e; rw [e]

/-- An expert has the route word of a token when the token names it. -/
theorem Fits.names {rt : IVec S1024x1 32} (h : Fits rt) (i : Fin 1024) (e : Fin 16) : BitVec.ofNat 32 e.val = rt (ix2 i 0) ↔ e = h.expert i := by
  rw [h.word i]
  constructor
  · intro q
    exact Fin.ext (word_inj (by have := e.isLt; omega) (by have := (h.expert i).isLt; omega) q)
  · intro q; rw [q]

/-- A sum of indicators is a count. -/
theorem sum_indicator {ι : Type} [Fintype ι] (p : ι → Prop) [DecidablePred p] :
    (∑ i, if p i then (1 : EReal) else 0) = (((Finset.univ.filter p).card : ℝ) : EReal) := by
  rw [← Finset.sum_filter, Finset.sum_const, nsmul_one]
  simp

/-- The kernel's count of the earlier tokens. -/
theorem place_eq {rt : IVec S1024x1 32} (h : Fits rt) (i : Fin 1024) :
    k0_pay5 (k0_pay3 (F := Ideal) rt) (iota .tc S1024x1024 32 [0] iota_S1024x1024_d0_w32) (iota .tc S1024x1024 32 [1] iota_S1024x1024_d1_w32) (ix2 i 0)
      = (((earlier rt i).card : ℝ) : EReal) := by
  pointwise [k0_pay5, k0_pay3, k0_pay2]
  simp only [indicator_eq, h.names]
  rw [Finset.sum_eq_single (h.expert i) (fun e _ he => by rw [if_neg he, mul_zero]) (fun hn => absurd (Finset.mem_univ _) hn), if_pos rfl, mul_one,
    earlier, ← sum_indicator]
  refine Finset.sum_congr rfl fun j _ => ?_
  rw [indicator_lt _ _ (by have := j.isLt; omega) (by have := i.isLt; omega)]
  by_cases hj : j < i
  · by_cases he : h.expert i = h.expert j
    · rw [if_pos (show j.val < i.val from hj), if_pos he, if_pos ⟨hj, h.same.2 he.symm⟩, mul_one]
    · rw [if_neg he, if_neg (fun q : j < i ∧ _ => he (h.same.1 q.2).symm), mul_zero]
  · rw [if_neg (show ¬ j.val < i.val from hj), if_neg (fun q : j < i ∧ _ => hj q.1), zero_mul]

/-- A small number read as a float and rounded is its word. -/
theorem whole_eq (n : ℕ) (hn : n < 128) : FloatOps.fptosi (F := Ideal) (φ := .f32) 32 ((n : ℝ) : EReal) = BitVec.ofNat 32 n := by
  show Ideal.fptosi 32 ((n : ℝ) : EReal) = _
  rw [Ideal.fptosi, Ideal.toIntClamped_coe, if_pos (Nat.cast_nonneg n), Int.floor_natCast, min_eq_right (by norm_num; omega), max_eq_right (by norm_num)]
  exact BitVec.ofInt_natCast ..

/-- The capacity, as a number. -/
theorem of_128 : Ideal.ofBits .f32 0x43000000#32 = (((128 : ℕ) : ℝ) : EReal) := by
  simp [Ideal.ofBits, Ideal.ieee]
  rw [← EReal.coe_mul]
  norm_num

/-- The row that a token takes. -/
def spot (c : Dev nD) {rt : IVec S1024x1 32} (h : Fits rt) (i : Fin 1024) : ℕ :=
  ((h.expert i).val / 4 + 4 - c.val) % 4 * 512 + (h.expert i).val % 4 * 128 + (earlier rt i).card

/-- Every place is a row of the table. -/
theorem spot_lt (c : Dev nD) {rt : IVec S1024x1 32} (h : Fits rt) (i : Fin 1024) : spot c h i < 2048 := by
  have := h.room i
  unfold spot
  omega

/-- No two tokens take one row. -/
theorem spot_inj (c : Dev nD) {rt : IVec S1024x1 32} (h : Fits rt) {i j : Fin 1024} (e : spot c h i = spot c h j) : i = j := by
  have hi := h.room i
  have hj := h.room j
  have hc : c.val < 4 := c.isLt
  have ki := (h.expert i).isLt
  have kj := (h.expert j).isLt
  unfold spot at e
  have hx : h.expert i = h.expert j := Fin.ext (by omega)
  have hn : (earlier rt i).card = (earlier rt j).card := by rw [hx] at e; omega
  have less : ∀ {a b : Fin 1024}, h.expert a = h.expert b → a < b → (earlier rt a).card < (earlier rt b).card := by
    intro a b hab hlt
    refine Finset.card_lt_card ⟨fun k hk => ?_, fun hs => ?_⟩
    · have hk' := (Finset.mem_filter.1 hk).2
      exact Finset.mem_filter.2 ⟨Finset.mem_univ _, hk'.1.trans hlt, hk'.2.trans (h.same.2 hab)⟩
    · have := (Finset.mem_filter.1 (hs (Finset.mem_filter.2 ⟨Finset.mem_univ a, hlt, h.same.2 hab⟩))).2.1
      exact absurd this (lt_irrefl a)
  rcases lt_trichotomy i j with q | q | q
  · exact absurd hn (less hx q).ne
  · exact q
  · exact absurd hn.symm (less hx.symm q).ne

variable (m : (ℓ : Loc nD τ sig) → Buf (Elt Ideal) ℓ)

/-- The kernel's one-hot table: each token's one is at the row it takes. -/
theorem slots_eq (c : Dev nD) (h : Fits (inRt m c)) (i : Fin 1024) (j : Fin 2048) :
    slots m c (ix2 i j) = if j.val = spot c h i then (1 : EReal) else 0 := by
  have hp : place m c (ix2 i 0) = (((earlier (inRt m c) i).card : ℝ) : EReal) := place_eq h i
  have e := slots_word (k0_pay2 (F := Ideal) (inRt m c)) (place m c) (me c) i j
  have e2 : k0_pay2 (F := Ideal) (inRt m c) (ix2 i 0) = BitVec.ofNat 32 (h.expert i).val := by
    pointwise [k0_pay2]
    exact h.word i
  have hlt : (((earlier (inRt m c) i).card : ℝ) : EReal) < (((128 : ℕ) : ℝ) : EReal) :=
    EReal.coe_lt_coe_iff.2 (Nat.cast_lt.2 (h.room i))
  rw [hp, of_128, if_pos hlt, whole_eq _ (h.room i), e2, first_row_eq] at e
  refine e.trans ?_
  have hw : IntOp.addi (BitVec.ofNat 32 (((h.expert i).val / 4 + 4 - c.val) % 4 * 512 + (h.expert i).val % 4 * 128))
      (BitVec.ofNat 32 (earlier (inRt m c) i).card) = BitVec.ofNat 32 (spot c h i) := (BitVec.ofNat_add ..).symm
  rw [hw]
  have hs := spot_lt c h i
  have hj := j.isLt
  by_cases q : j.val = spot c h i
  · rw [if_pos q, if_pos (by rw [q])]
  · rw [if_neg q, if_neg (fun w => q (word_inj (by omega) (by omega) w))]

end Cert.Exchange

end
-- ==== Proof.Gate.lean ====
/-
# The gate

The router's probability of the expert that a token names, and what makes it a nonnegative real number.
-/
module

public import proofs.«01_k».proof.Proof.Slots

@[expose] public section

noncomputable section

namespace Cert.Exchange

open Cert.KernelIdeal Cert.KernelIdeal.Gen
open Idealize.ShloMosaic
open scoped BigOperators

/-- The greatest of sixteen scores. -/
def top (s : Fin 16 → EReal) : EReal := Finset.univ.fold max (Ideal.ofBits .f32 0xFF800000#32) s
/-- The share of one score's exponential in the sum of all. -/
def prob (s : Fin 16 → EReal) (e : Fin 16) : EReal := Ideal.div (Ideal.exp (s e - top s)) (∑ k, Ideal.exp (s k - top s))

/-- The kernel's gate is the probability of the token's expert. -/
theorem gate_eq (x : Vec Ideal S1024x512 .bf16) (rw' : Vec Ideal S512x16 .bf16) {rt : IVec S1024x1 32} (h : Fits rt) (i : Fin 1024) :
    k0_pay4 x rw' rt (ix2 i 0) = prob (fun e => ∑ k : Fin 512, x (ix2 i k) * rw' (ix2 k e)) (h.expert i) := by
  pointwise [k0_pay4, k0_pay3, k0_pay2, k0_pay1]
  simp only [indicator_eq, h.names]
  rw [Finset.sum_eq_single (h.expert i) (fun e _ he => by rw [if_neg he, mul_zero]) (fun hn => absurd (Finset.mem_univ _) hn), if_pos rfl, mul_one]
  rfl

/-- A sum of real numbers, among the extended reals. -/
theorem coe_sum {n : ℕ} (g : Fin n → ℝ) : ((∑ k, g k : ℝ) : EReal) = ∑ k, (g k : EReal) :=
  map_sum (⟨⟨fun r : ℝ => (r : EReal), EReal.coe_zero⟩, EReal.coe_add⟩ : ℝ →+ EReal) g Finset.univ

/-- Sums of real numbers are real. -/
theorem sum_real {n : ℕ} (f : Fin n → EReal) (hf : ∀ k, ∃ q : ℝ, f k = q) : ∃ q : ℝ, ∑ k, f k = q := by
  choose g hg using hf
  refine ⟨∑ k, g k, ?_⟩
  rw [coe_sum]
  exact Finset.sum_congr rfl fun k _ => hg k

/-- The greatest of sixteen real scores is real. -/
theorem top_real (s : Fin 16 → EReal) (hs : ∀ k, ∃ q : ℝ, s k = q) : ∃ q : ℝ, top s = q := by
  have hb : Ideal.ofBits .f32 0xFF800000#32 = ⊥ := by simp [Ideal.ofBits, Ideal.ieee]
  have lo : ⊥ < top s := by
    obtain ⟨q, hq⟩ := hs 0
    exact (Finset.lt_fold_max (⊥ : EReal)).2 (.inr ⟨0, Finset.mem_univ _, by rw [hq]; exact EReal.bot_lt_coe q⟩)
  have hi : top s < ⊤ := by
    refine (Finset.fold_max_lt (⊤ : EReal)).2 ⟨by rw [hb]; exact bot_lt_top, fun k _ => ?_⟩
    obtain ⟨q, hq⟩ := hs k
    rw [hq]; exact EReal.coe_lt_top q
  exact ⟨(top s).toReal, (EReal.coe_toReal hi.ne lo.ne').symm⟩

/-- Probabilities of real scores are nonnegative real numbers. -/
theorem prob_real (s : Fin 16 → EReal) (hs : ∀ k, ∃ q : ℝ, s k = q) (e : Fin 16) : ∃ q : ℝ, 0 ≤ q ∧ prob s e = q := by
  obtain ⟨t, ht⟩ := top_real s hs
  choose g hg using hs
  have he : ∀ k, Ideal.exp (s k - top s) = (Real.exp (g k - t) : EReal) := fun k => by
    rw [hg k, ht, ← EReal.coe_sub]; rfl
  have hpos : 0 < ∑ k, Real.exp (g k - t) := Finset.sum_pos (fun k _ => Real.exp_pos _) ⟨0, Finset.mem_univ _⟩
  refine ⟨Real.exp (g e - t) * (∑ k, Real.exp (g k - t))⁻¹, mul_nonneg (Real.exp_pos _).le (inv_nonneg.2 hpos.le), ?_⟩
  unfold prob
  rw [he e, Finset.sum_congr rfl (fun k _ => he k), ← coe_sum, Ideal.div, if_neg (by exact_mod_cast hpos.ne'), ← EReal.coe_inv, ← EReal.coe_mul]

/-- A nonnegative real factor passes into a sum of extended reals. -/
theorem mul_sum_real {n : ℕ} (q : ℝ) (hq : 0 ≤ q) (f : Fin n → EReal) : (q : EReal) * ∑ k, f k = ∑ k, (q : EReal) * f k := by
  classical
  have : ∀ S : Finset (Fin n), (q : EReal) * ∑ k ∈ S, f k = ∑ k ∈ S, (q : EReal) * f k := fun S => by
    induction S using Finset.induction_on with
    | empty => simp
    | insert a S ha ih =>
      rw [Finset.sum_insert ha, Finset.sum_insert ha, EReal.left_distrib_of_nonneg_of_ne_top (EReal.coe_nonneg.2 hq) (EReal.coe_ne_top q), ih]
  exact this _

end Cert.Exchange

end
-- ==== Proof.Blocks.lean ====
/-
# The exchanged blocks, element by element

What each device sends, what comes back to it, and the block it returns, as sums over the tokens, the features and the rows.
-/
module

public import Idealize.ShloMosaic.Lib.ValueLayout
public import proofs.«01_k».proof.Proof.Gate

@[expose] public section

noncomputable section

namespace Cert.Exchange

open Cert.KernelIdeal Cert.KernelIdeal.Gen
open Idealize.ShloMosaic
open scoped BigOperators

/-- The four experts' products as the kernel concatenates them: row `j` is multiplied by the matrix of the expert that owns it. -/
theorem experts_eq (w : FVec Ideal S4x512x1024 .bf16) (v : Vec Ideal S1x512x512 .bf16) (j : Fin 512) (h : Fin 1024) :
    k0_pay30 w v (ix3 0 j h) = ∑ k : Fin 512, v (ix3 0 j k) * w (ix3 ⟨j.val / 128, by omega⟩ k h) := by
  pointwise [k0_pay30]
  have pick : ∀ (r : Fin 512) (e : Fin 4), r = j → e.val = j.val / 128 →
      ∑ k : Fin 512, v (ix3 0 r k) * w (ix3 e k h) = ∑ k : Fin 512, v (ix3 0 j k) * w (ix3 ⟨j.val / 128, by omega⟩ k h) := by
    rintro r ⟨e, he⟩ rfl q
    cases q
    rfl
  by_cases h0 : j.val < 128
  · rw [dif_pos h0]
    exact pick _ 0 rfl (by show 0 = _; omega)
  rw [dif_neg h0]
  by_cases h1 : j.val - 128 < 128
  · rw [dif_pos h1]
    exact pick _ 1 (Fin.ext (by show 128 + (j.val - 128) = _; omega)) (by show 1 = _; omega)
  rw [dif_neg h1]
  by_cases h2 : j.val - 128 - 128 < 128
  · rw [dif_pos h2]
    exact pick _ 2 (Fin.ext (by show 256 + (j.val - 128 - 128) = _; omega)) (by show 2 = _; omega)
  rw [dif_neg h2]
  exact pick _ 3 (Fin.ext (by show 384 + (j.val - 128 - 128 - 128) = _; omega)) (by show 3 = _; omega)

/-- The product a device makes of the tokens it keeps is the same product. -/
theorem experts_own (w : Vec Ideal S4x512x1024 .bf16) (v : Vec Ideal S512x512 .bf16) (j : Fin 512) (h : Fin 1024) :
    k0_pay18 w v (ix2 j h) = k0_pay30 (k0_pay16 w) (fun i => v ((Shape.reshapeEquiv squeezes_S1x512x512_S512x512.numel_eq).symm i)) (ix3 0 j h) := by
  have hv : ∀ (a b : Fin 512), (Shape.reshapeEquiv squeezes_S1x512x512_S512x512.numel_eq).symm (ix3 (0 : Fin 1) a b) = (ix2 a b : S512x512.Idx) := by
    intro a b
    rw [Equiv.symm_apply_eq, ix2_eq_valueIdx, ix3_eq_valueIdx]
    exact (ValueIdx.reshapeEquiv_ix2_1ab _ a b).symm
  pointwise [k0_pay18, k0_pay30]
  simp only [hv]

/-- The shared expert's product. -/
theorem shared_eq (x : Vec Ideal S1024x512 .bf16) (w : Vec Ideal S512x1024 .bf16) (i h : Fin 1024) :
    k0_pay19 (k0_pay1 x) w (ix2 i h) = ∑ k : Fin 512, x (ix2 i k) * w (ix2 k h) := by
  pointwise [k0_pay19, k0_pay1]

variable (m : (ℓ : Loc nD τ sig) → Buf (Elt Ideal) ℓ)

/-- A gathered row: the gated tokens that took it. -/
theorem sent_eq (c : Dev nD) (d : Fin 4) (j k : Fin 512) :
    sent m c d (ix2 j k) = ∑ i : Fin 1024, gated m c (ix2 i ⟨512 * d.val + j.val, by omega⟩) * inX m c (ix2 i k) := by
  match d with
  | 0 =>
    show k0_pay17 (k0_pay1 (inX m c)) (gated m c) (ix2 j k) = _
    pointwise [k0_pay17, k0_pay1]
  | 1 =>
    show k0_pay12 (k0_pay1 (inX m c)) (gated m c) (ix2 j k) = _
    pointwise [k0_pay12, k0_pay1]
  | 2 =>
    show k0_pay15 (k0_pay1 (inX m c)) (gated m c) (ix2 j k) = _
    pointwise [k0_pay15, k0_pay1]
  | 3 =>
    show k0_pay14 (k0_pay13 (k0_pay1 (inX m c)) (gated m c)) (ix2 j k) = _
    pointwise [k0_pay14, k0_pay13, k0_pay1]

/-- The gated entry is the one-hot entry times the token's gate. -/
theorem gated_eq (c : Dev nD) (i : Fin 1024) (s : Fin 2048) :
    gated m c (ix2 i s) = slots m c (ix2 i s) * k0_pay4 (inX m c) (inRW m c) (inRt m c) (ix2 i 0) := by
  unfold gated slots
  pointwise [k0_pay11]

/-- A row that comes back: the gathered row through its expert. -/
theorem back_eq (c : Dev nD) (d : Fin 4) (j : Fin 512) (h : Fin 1024) :
    back m c d (ix2 j h) = ∑ k : Fin 512, sent m c d (ix2 j k) * inEW m (c + d) (ix3 ⟨j.val / 128, by omega⟩ k h) := by
  have e : back m c d (ix2 j h) = k0_pay30 (k0_pay16 (inEW m (c + d)))
      (fun i => sent m c d ((Shape.reshapeEquiv squeezes_S1x512x512_S512x512.numel_eq).symm i)) (ix3 0 j h) := by
    unfold back
    by_cases hd : d = 0
    · subst hd
      have hc : c + 0 = c := by revert c; decide
      rw [if_pos rfl, hc]
      exact experts_own _ _ j h
    · have hcd : c + d - c = d := by revert c d; decide
      rw [if_neg hd]
      unfold worked landed
      rw [hcd]
      refine congrArg (k0_pay30 _ _) ?_
      rw [ix2_eq_valueIdx, ix3_eq_valueIdx]
      exact ValueIdx.reshapeEquiv_ix2_1ab _ j h
  have hv : ∀ (a b : Fin 512), (Shape.reshapeEquiv squeezes_S1x512x512_S512x512.numel_eq).symm (ix3 (0 : Fin 1) a b) = (ix2 a b : S512x512.Idx) := by
    intro a b
    rw [Equiv.symm_apply_eq, ix2_eq_valueIdx, ix3_eq_valueIdx]
    exact (ValueIdx.reshapeEquiv_ix2_1ab _ a b).symm
  rw [e, experts_eq]
  simp only [hv]
  pointwise [k0_pay16]

/-- What a token draws from the rows that came back from the peer at an offset. -/
def drawn (c : Dev nD) (i : Fin 1024) (h : Fin 1024) (d : Fin 4) : EReal :=
  ∑ j : Fin 512, slots m c (ix2 i ⟨512 * d.val + j.val, by omega⟩) * back m c d (ix2 j h)

/-- The returned block: the shared expert's product plus what is drawn from the four peers. -/
theorem result_eq (c : Dev nD) (i : Fin 1024) (h : Fin 1024) :
    (result m c : Vec Ideal S1024x1024 .f32) (ix2 i h)
      = k0_pay19 (k0_pay1 (inX m c)) (inSW m c) (ix2 i h) + drawn m c i h 0 + drawn m c i h 1 + drawn m c i h 3 + drawn m c i h 2 := by
  unfold result drawn
  pointwise [k0_pay33, k0_pay32, k0_pay31, k0_pay21, k0_pay20]

end Cert.Exchange

end
-- ==== Proof.Drawn.lean ====
/-
# What a token draws

A token draws one row of one peer's results: its gated features through the expert that it names.
-/
module

public import proofs.«01_k».proof.Proof.Blocks

@[expose] public section

noncomputable section

namespace Cert.Exchange

open Cert.KernelIdeal Cert.KernelIdeal.Gen
open Idealize.ShloMosaic
open scoped BigOperators

variable (m : (ℓ : Loc nD τ sig) → Buf (Elt Ideal) ℓ)

/-- The row that a token takes holds its gated features alone. -/
theorem sent_at (c : Dev nD) (hf : Fits (inRt m c)) (i : Fin 1024) (d : Fin 4) (j k : Fin 512) (hj : 512 * d.val + j.val = spot c hf i) :
    sent m c d (ix2 j k) = k0_pay4 (inX m c) (inRW m c) (inRt m c) (ix2 i 0) * inX m c (ix2 i k) := by
  rw [sent_eq, Finset.sum_eq_single i]
  · rw [gated_eq, slots_eq m c hf, if_pos hj, one_mul]
  · intro i' _ hne
    rw [gated_eq, slots_eq m c hf, if_neg (fun e : 512 * d.val + j.val = spot c hf i' => hne (spot_inj c hf (e.symm.trans hj))), zero_mul]
    exact zero_mul _
  · exact fun hn => absurd (Finset.mem_univ _) hn

/-- What a token draws from the peer that holds its expert. -/
theorem drawn_here (c : Dev nD) (hf : Fits (inRt m c)) (i h : Fin 1024) (d : Fin 4) (hd : (hf.expert i).val / 4 = (c + d).val) :
    drawn m c i h d = ∑ k : Fin 512, k0_pay4 (inX m c) (inRW m c) (inRt m c) (ix2 i 0) * inX m c (ix2 i k)
      * inEW m (c + d) (ix3 ⟨(hf.expert i).val % 4, Nat.mod_lt _ (by decide)⟩ k h) := by
  have hr := hf.room i
  have hc : c.val < 4 := c.isLt
  have hk := (hf.expert i).isLt
  have hv : (c + d).val = (c.val + d.val) % 4 := rfl
  have ht : (hf.expert i).val % 4 * 128 + (earlier (inRt m c) i).card < 512 := by omega
  have hs : 512 * d.val + ((hf.expert i).val % 4 * 128 + (earlier (inRt m c) i).card) = spot c hf i := by unfold spot; omega
  unfold drawn
  rw [Finset.sum_eq_single (⟨(hf.expert i).val % 4 * 128 + (earlier (inRt m c) i).card, ht⟩ : Fin 512)]
  · rw [slots_eq m c hf, if_pos hs, one_mul, back_eq]
    refine Finset.sum_congr rfl fun k _ => ?_
    rw [sent_at m c hf i d _ k hs]
    have he : (⟨((hf.expert i).val % 4 * 128 + (earlier (inRt m c) i).card) / 128, by omega⟩ : Fin 4)
        = ⟨(hf.expert i).val % 4, Nat.mod_lt _ (by decide)⟩ := Fin.ext (by
        show ((hf.expert i).val % 4 * 128 + (earlier (inRt m c) i).card) / 128 = (hf.expert i).val % 4
        omega)
    exact congrArg (fun e => _ * inEW m (c + d) (ix3 e k h)) he
  · intro j _ hne
    rw [slots_eq m c hf, if_neg (fun e : 512 * d.val + j.val = spot c hf i => hne (Fin.ext (by
      show j.val = (hf.expert i).val % 4 * 128 + (earlier (inRt m c) i).card
      omega))), zero_mul]
  · exact fun hn => absurd (Finset.mem_univ _) hn

/-- A token draws nothing from the other peers. -/
theorem drawn_elsewhere (c : Dev nD) (hf : Fits (inRt m c)) (i h : Fin 1024) (d : Fin 4) (hd : (hf.expert i).val / 4 ≠ (c + d).val) :
    drawn m c i h d = 0 := by
  have hr := hf.room i
  have hc : c.val < 4 := c.isLt
  have hk := (hf.expert i).isLt
  have hv : (c + d).val = (c.val + d.val) % 4 := rfl
  unfold drawn
  refine Finset.sum_eq_zero fun j _ => ?_
  have hj := j.isLt
  rw [slots_eq m c hf, if_neg (fun e : 512 * d.val + j.val = spot c hf i => hd (by unfold spot at e; omega)), zero_mul]

/-- Of four terms all but one are zero. -/
theorem one_of_four (f : Fin 4 → EReal) (d : Fin 4) (other : ∀ d', d' ≠ d → f d' = 0) (s : EReal) :
    s + f 0 + f 1 + f 3 + f 2 = s + f d := by
  have cases : d = 0 ∨ d = 1 ∨ d = 2 ∨ d = 3 := by clear other; revert d; decide
  rcases cases with rfl | rfl | rfl | rfl
  · rw [other 1 (by decide), other 3 (by decide), other 2 (by decide)]; simp
  · rw [other 0 (by decide), other 3 (by decide), other 2 (by decide)]; simp
  · rw [other 0 (by decide), other 1 (by decide), other 3 (by decide)]; simp
  · rw [other 0 (by decide), other 1 (by decide), other 2 (by decide)]; simp

/-- Of the four peers, one holds the token's expert. -/
theorem drawn_total (c : Dev nD) (hf : Fits (inRt m c)) (i h : Fin 1024) (v : EReal)
    (hv : ∀ d : Fin 4, (hf.expert i).val / 4 = (c + d).val → drawn m c i h d = v) (s : EReal) :
    s + drawn m c i h 0 + drawn m c i h 1 + drawn m c i h 3 + drawn m c i h 2 = s + v := by
  obtain ⟨d, hd⟩ : ∃ d : Fin 4, (hf.expert i).val / 4 = (c + d).val := by
    have hk : (hf.expert i).val / 4 < 4 := by have := (hf.expert i).isLt; omega
    have : ∀ (c q : Dev nD), ∃ d : Fin 4, q.val = (c + d).val := by decide
    exact this c ⟨_, hk⟩
  have other : ∀ d' : Fin 4, d' ≠ d → drawn m c i h d' = 0 := fun d' hne => drawn_elsewhere m c hf i h d' fun e => by
    have : ∀ (c d d' : Dev nD), (c + d).val = (c + d').val → d' = d := by decide
    exact hne (this c d d' (hd.symm.trans e))
  have here := hv d hd
  rw [← here]
  exact one_of_four _ d other s

end Cert.Exchange

end
-- ==== Proof.Serve.lean ====
/-
# What the precondition says

The printed precondition, read as facts of one device's blocks: the tokens and the router are real numbers, and the routes
can be served.
-/
module

public import Idealize.ShloMosaic.Lib.ReduceAll
public import Idealize.ShloMosaic.Lib.IndicatorCount
public import proofs.«01_k».proof.Defs
public import proofs.«01_k».proof.Proof.Slots

@[expose] public section

noncomputable section

namespace Cert.Exchange

open Cert.Pre_servable_KernelIdeal
open Idealize.ShloMosaic

/-- A conjunction of two bits that is one. -/
theorem both {a b : BitVec 1} (h : IntOp.andi a b = 1#1) : a = 1#1 ∧ b = 1#1 := by
  revert a b; decide

/-- A number strictly between the infinities is real. -/
theorem real_of_between (v : EReal) (h : IntOp.andi (FloatOps.cmpf (F := Ideal) (φ := .bf16) .ogt v (Ideal.ofBits .bf16 0xFF80#16))
    (FloatOps.cmpf (F := Ideal) (φ := .bf16) .olt v (Ideal.ofBits .bf16 0x7F80#16)) = 1#1) : ∃ q : ℝ, v = q := by
  have hb : Ideal.ofBits .bf16 0xFF80#16 = ⊥ := by simp [Ideal.ofBits, Ideal.ieee]
  have ht : Ideal.ofBits .bf16 0x7F80#16 = ⊤ := by simp [Ideal.ofBits, Ideal.ieee]
  rw [hb, ht] at h
  have h1 : decide (⊥ < v) = true := (WordArith.ofBool_eq_one_iff _).1 (both h).1
  have h2 : decide (v < ⊤) = true := (WordArith.ofBool_eq_one_iff _).1 (both h).2
  exact ⟨v.toReal, (EReal.coe_toReal (of_decide_eq_true h2).ne (of_decide_eq_true h1).ne').symm⟩

/-- A count of at most 1024 that is signed-at-most 128. -/
theorem le_of_sle (n : ℕ) (hn : n ≤ 1024) (h : BitVec.sle (BitVec.ofNat 32 n) 128#32 = true) : n ≤ 128 := by
  rw [BitVec.sle_eq_decide, decide_eq_true_eq] at h
  have e : (128#32 : BitVec 32).toInt = 128 := by decide
  have en : (BitVec.ofNat 32 n).toInt = n := by
    rw [BitVec.toInt_eq_toNat_cond, BitVec.toNat_ofNat, Nat.mod_eq_of_lt (by omega)]
    split <;> omega
  omega

/-- A single number has one index. -/
theorem one_index : Subsingleton S_.Idx := ⟨fun a b => funext fun d => d.elim0⟩

/-- Every entry is a real number. -/
def AllReal {S : Shape} (v : Vec Ideal S .bf16) : Prop := ∀ i, ∃ q : ℝ, v i = q

/-- The precondition of one device's blocks. -/
theorem servable_facts [Facts] (x : FVec Ideal S1024x512 .bf16) (w : FVec Ideal S512x16 .bf16) (rt : IVec S1024x1 32) (ew : FVec Ideal S4x512x1024 .bf16)
    (sw : FVec Ideal S512x1024 .bf16) (h : fn (F := Ideal) x w rt ew sw = fun _ => 1#1) :
    AllReal x ∧ AllReal w ∧ Fits rt := by
  have h0 := congrFun h ix0
  unfold fn fn_part1 at h0
  obtain ⟨h1, hc⟩ := both h0
  obtain ⟨h2, hn⟩ := both h1
  obtain ⟨hx, hw⟩ := both h2
  have ones := one_index
  have named : ∀ i : Fin 1024, (rt (ix2 i 0)).toNat < 16 := fun i => by
    have := Host.reduce_andi_all _ _ _ _ _ hn (ix2 i 0)
    pointwise at this
    obtain ⟨a, b⟩ := both this
    have a' := (WordArith.ofBool_eq_one_iff _).1 a
    have b' := (WordArith.ofBool_eq_one_iff _).1 b
    exact WordArith.toNat_lt_of_zero_sle_of_slt_ofNat _ 16 (by decide) a' b'
  refine ⟨fun i => real_of_between _ ?_, fun i => real_of_between _ ?_, named, fun i => ?_⟩
  · have := Host.reduce_andi_all _ _ _ _ _ hx i
    pointwise at this
    exact this
  · have := Host.reduce_andi_all _ _ _ _ _ hw i
    pointwise at this
    exact this
  · have := Host.reduce_andi_all _ _ _ _ _ hc (ix1 ⟨(rt (ix2 i 0)).toNat, named i⟩)
    pointwise at this
    rw [IndicatorCount.fold_addi_setWidth_eq_card] at this
    have few := le_of_sle _ (le_trans (Finset.card_filter_le _ _) (by simp)) ((WordArith.ofBool_eq_one_iff _).1 this)
    refine lt_of_lt_of_le (Finset.card_lt_card ?_) few
    refine Finset.ssubset_iff_subset_ne.2 ⟨fun j hj => ?_, fun e => ?_⟩
    · have same := (Finset.mem_filter.1 hj).2.2
      refine Finset.mem_filter.2 ⟨Finset.mem_univ _, (WordArith.ofBool_eq_one_iff _).2 (beq_iff_eq.2 ?_)⟩
      rw [same, BitVec.ofNat_toNat, BitVec.setWidth_eq]
    · have self : i ∈ earlier rt i := by
        rw [e]
        refine Finset.mem_filter.2 ⟨Finset.mem_univ _, (WordArith.ofBool_eq_one_iff _).2 (beq_iff_eq.2 ?_)⟩
        rw [BitVec.ofNat_toNat, BitVec.setWidth_eq]
      exact lt_irrefl _ (Finset.mem_filter.1 self).2.1

end Cert.Exchange

end
-- ==== Proof.Whole.lean ====
/-
# The reference at an index

One output number of the reference: the shared expert, and the token's own expert weighted by its probability.
-/
module

public import Idealize.ShloMosaic.Lib.WordArith
public import proofs.«01_k».proof.Proof.Plain
public import proofs.«01_k».proof.Proof.Gate
public import proofs.«01_k».proof.Proof.Slots

@[expose] public section

noncomputable section

namespace Cert.Plain

open Cert.ReferenceIdeal Cert.ReferenceIdeal.Gen
open Idealize.ShloMosaic
open scoped BigOperators

/-- A score of the reference, -/
theorem scores_at (x : Vec Ideal S4096x512 .bf16) (w : Vec Ideal S512x16 .bf16) (r : Fin 4096) (e : Fin 16) :
    scores (F := Ideal) x w (ix2 r e) = ∑ k, x (ix2 r k) * w (ix2 k e) := by
  pointwise [scores]

/-- an exponential, -/
theorem expo_at (s : Vec Ideal S4096x16 .f32) (r : Fin 4096) (e : Fin 16) :
    expo (F := Ideal) s (ix2 r e) = Ideal.exp (s (ix2 r e) - Cert.Exchange.top fun k => s (ix2 r k)) := by
  pointwise [expo]
  rfl

/-- a probability, -/
theorem share_at (s : Vec Ideal S4096x16 .f32) (r : Fin 4096) (e : Fin 16) :
    share (F := Ideal) s (ix2 r e) = Ideal.div (s (ix2 r e)) (∑ k, s (ix2 r k)) := by
  pointwise [share]

/-- the probability of the expert that a token names, zero at the others, -/
theorem chosen_at (rt : IVec S4096x1 32) (s : Vec Ideal S4096x16 .f32) (r : Fin 4096) (e : Fin 16) :
    chosen (F := Ideal) rt s (ix2 r e) = Scalar.select (IntOp.cmpi .eq (rt (ix2 r 0)) (BitVec.ofNat 32 e)) (s (ix2 r e)) 0 := by
  pointwise [chosen, routed]

/-- and an output number from the weights of the experts. -/
theorem total_at (x : Vec Ideal S4096x512 .bf16) (g : Vec Ideal S4096x16 .f32) (ew : Vec Ideal S16x512x1024 .bf16) (sw : Vec Ideal S512x1024 .bf16)
    (r : Fin 4096) (h : Fin 1024) :
    total (F := Ideal) x g ew sw (ix2 r h) = ∑ k, x (ix2 r k) * sw (ix2 k h) + ∑ e, g (ix2 r e) * ∑ k, x (ix2 r k) * ew (ix3 e k h) := by
  pointwise [total]

/-- The reference, at a token that names expert `t`. -/
theorem out_at (x : Vec Ideal S4096x512 .bf16) (w : Vec Ideal S512x16 .bf16) (rt : IVec S4096x1 32) (ew : Vec Ideal S16x512x1024 .bf16)
    (sw : Vec Ideal S512x1024 .bf16) (r : Fin 4096) (h : Fin 1024) (t : Fin 16) (ht : rt (ix2 r 0) = BitVec.ofNat 32 t.val) :
    out (F := Ideal) x w rt ew sw (ix2 r h) = ∑ k, x (ix2 r k) * sw (ix2 k h)
      + Cert.Exchange.prob (fun e => ∑ k, x (ix2 r k) * w (ix2 k e)) t * ∑ k, x (ix2 r k) * ew (ix3 t k h) := by
  unfold out
  rw [total_at, Finset.sum_eq_single t]
  · rw [chosen_at, ht]
    simp [share_at, expo_at, scores_at, Cert.Exchange.prob, IntOp.cmpi, Scalar.select]
  · intro e _ hne
    have : BitVec.ofNat 32 t.val ≠ BitVec.ofNat 32 e.val := fun q => hne (Fin.ext (Cert.Exchange.word_inj (by omega) (by omega) q.symm))
    have off : IntOp.cmpi .eq (BitVec.ofNat 32 t.val) (BitVec.ofNat 32 e.val) ≠ 1 := fun q =>
      this (eq_of_beq ((WordArith.ofBool_eq_one_iff _).1 q))
    rw [chosen_at, ht, Scalar.select, if_neg off, zero_mul]
  · exact fun hn => absurd (Finset.mem_univ _) hn

end Cert.Plain

end
-- ==== Proof.Value.lean ====
/-
# The kernel's result is the reference's

On every device whose routes can be served, each output number of the kernel is the reference's.
-/
module

public import proofs.«01_k».proof.Proof.Compare
public import proofs.«01_k».proof.Proof.Drawn
public import proofs.«01_k».proof.Proof.Serve
public import proofs.«01_k».proof.Proof.Whole

@[expose] public section

noncomputable section

namespace Cert.Exchange

open Cert.KernelIdeal Cert.KernelIdeal.Gen
open Idealize.ShloMosaic Idealize.ShloMosaic.TcCoe
open scoped BigOperators

/-- A sum of products of real numbers is real. -/
theorem scores_real (x : Vec Ideal S1024x512 .bf16) (w : Vec Ideal S512x16 .bf16) (hx : AllReal x) (hw : AllReal w)
    (i : Fin 1024) (e : Fin 16) : ∃ q : ℝ, ∑ k : Fin 512, x (ix2 i k) * w (ix2 k e) = q :=
  sum_real _ fun k => by
    obtain ⟨a, ha⟩ := hx (ix2 i k)
    obtain ⟨b, hb⟩ := hw (ix2 k e)
    exact ⟨a * b, by rw [ha, hb]; exact (EReal.coe_mul a b).symm⟩

/-- A gate scales the expert's input or its output alike. -/
theorem scale_out (p : EReal) (hp : ∃ q : ℝ, 0 ≤ q ∧ p = q) (x : Vec Ideal S1024x512 .bf16) (w : Vec Ideal S4x512x1024 .bf16) (i : Fin 1024) (e : Fin 4) (h : Fin 1024) :
    ∑ k : Fin 512, p * x (ix2 i k) * w (ix3 e k h) = p * ∑ k : Fin 512, x (ix2 i k) * w (ix3 e k h) := by
  obtain ⟨q, hq, rfl⟩ := hp
  rw [mul_sum_real q hq]
  exact Finset.sum_congr rfl fun k _ => mul_assoc _ _ _

variable (m : (ℓ : Loc nD τ sig) → Buf (Elt Ideal) ℓ)

/-- The kernel, at a token whose expert device `q` holds. -/
theorem result_at (c q : Dev nD) (x : Vec Ideal S1024x512 .bf16) (w : Vec Ideal S512x16 .bf16) (rt : IVec S1024x1 32)
    (ew : Vec Ideal S4x512x1024 .bf16) (sw : Vec Ideal S512x1024 .bf16) (eX : inX m c = x) (eW : inRW m c = w) (eRt : inRt m c = rt)
    (eE : inEW m q = ew) (eS : inSW m c = sw) (hx : AllReal x) (hw : AllReal w) (hf : Fits rt) (i h : Fin 1024)
    (hq : (hf.expert i).val / 4 = q.val) :
    result m c (ix2 i h) = ∑ k : Fin 512, x (ix2 i k) * sw (ix2 k h)
      + prob (fun e => ∑ k : Fin 512, x (ix2 i k) * w (ix2 k e)) (hf.expert i)
        * ∑ k : Fin 512, x (ix2 i k) * ew (ix3 ⟨(hf.expert i).val % 4, Nat.mod_lt _ (by decide)⟩ k h) := by
  subst eX eW eRt eE eS
  rw [result_eq, shared_eq]
  refine drawn_total m c hf i h _ (fun d hd => ?_) _
  have e : c + d = q := Fin.ext (hd.symm.trans hq)
  rw [drawn_here m c hf i h d hd, e, gate_eq (inX m c) (inRW m c) hf i]
  exact scale_out _ (prob_real _ (scores_real _ _ hx hw i) _) (inX m c) (inEW m q) i _ h

/-- A device's block of the tokens' rows, at an index. -/
theorem rows_at {α : Type} {n : ℕ} (c : Fin 4) (v : (⟨2, ![4096, n]⟩ : Shape).Idx → α) (t : Layout.Tiles ⟨2, ![1024, n]⟩ ⟨2, ![4096, n]⟩ 0 4)
    (i : Fin 1024) (k : Fin n) :
    Layout.block ⟨2, ![1024, n]⟩ ⟨2, ![4096, n]⟩ 0 4 c v t (ix2 i k) = v (ix2 ⟨1024 * c.val + i.val, by omega⟩ k) := by
  rw [Layout.block_apply]
  refine congrArg v (funext fun b => Fin.ext ?_)
  fin_cases b
  · show c.val * 1024 + i.val = 1024 * c.val + i.val
    omega
  · rfl

/-- A device's block of the experts, at an index. -/
theorem experts_at {α : Type} (c : Fin 4) (v : (⟨3, ![16, 512, 1024]⟩ : Shape).Idx → α)
    (t : Layout.Tiles ⟨3, ![4, 512, 1024]⟩ ⟨3, ![16, 512, 1024]⟩ 0 4) (e : Fin 4) (k : Fin 512) (h : Fin 1024) :
    Layout.block ⟨3, ![4, 512, 1024]⟩ ⟨3, ![16, 512, 1024]⟩ 0 4 c v t (ix3 e k h) = v (ix3 ⟨4 * c.val + e.val, by omega⟩ k h) := by
  rw [Layout.block_apply]
  refine congrArg v (funext fun b => Fin.ext ?_)
  fin_cases b
  · show c.val * 4 + e.val = 4 * c.val + e.val
    omega
  · rfl
  · rfl

/-- Each device's result is its block of the reference's. -/
theorem main_eq (c : Dev nD) (x : Vec Ideal ⟨2, ![4096, 512]⟩ .bf16) (rw' : Vec Ideal ⟨2, ![512, 16]⟩ .bf16) (rt : Vec Ideal ⟨2, ![4096, 1]⟩ .i32)
    (ew : Vec Ideal ⟨3, ![16, 512, 1024]⟩ .bf16) (sw : Vec Ideal ⟨2, ![512, 1024]⟩ .bf16) (hpre : Cert.Pre_KernelIdeal_servable_KernelIdeal (hPre_servable_KernelIdeal := pre_facts) m)
    (hin : ∀ c : Dev nD, inX m c = Layout.block ⟨2, ![1024, 512]⟩ ⟨2, ![4096, 512]⟩ 0 4 c x ∧ inRW m c = rw'
      ∧ inRt m c = Layout.block ⟨2, ![1024, 1]⟩ ⟨2, ![4096, 1]⟩ 0 4 c rt
      ∧ inEW m c = Layout.block ⟨3, ![4, 512, 1024]⟩ ⟨3, ![16, 512, 1024]⟩ 0 4 c ew ∧ inSW m c = sw) :
    result m c = Layout.block ⟨2, ![1024, 1024]⟩ ⟨2, ![4096, 1024]⟩ 0 4 c (Cert.Plain.out (F := Ideal) x rw' rt ew sw) := by
  obtain ⟨eX, eW, eRt, -, eS⟩ := hin c
  have served : AllReal (Layout.block ⟨2, ![1024, 512]⟩ ⟨2, ![4096, 512]⟩ 0 4 c x) ∧ AllReal rw'
      ∧ Fits (Layout.block ⟨2, ![1024, 1]⟩ ⟨2, ![4096, 1]⟩ 0 4 c rt) := by
    rw [← eX, ← eW, ← eRt, inX_eq, inRW_eq, inRt_eq]
    haveI := pre_facts
    exact servable_facts _ _ _ _ _ (hpre c)
  obtain ⟨hx, hw, hf⟩ := served
  refine funext fun p => ?_
  obtain ⟨i, h, rfl⟩ : ∃ i h, p = ix2 i h := ⟨p 0, p 1, eq_ix2 p⟩
  have hk := (hf.expert i).isLt
  have hq : (hf.expert i).val / 4 < 4 := by omega
  rw [rows_at, result_at m c ⟨_, hq⟩ _ _ _ _ _ eX eW eRt (hin ⟨_, hq⟩).2.2.2.1 eS hx hw hf i h rfl,
    Cert.Plain.out_at _ _ _ _ _ _ _ (hf.expert i) ((rows_at c rt _ i 0).symm.trans (hf.word i))]
  simp only [rows_at, experts_at]
  have e : (⟨4 * ((hf.expert i).val / 4) + (hf.expert i).val % 4, by omega⟩ : Fin 16) = hf.expert i := Fin.ext (Nat.div_add_mod _ _)
  rw [e]

end Cert.Exchange

end
-- ==== Proof.lean ====
/- The proof of the certificate's claim: each part is proved in the modules imported. -/
module
public import proofs.«01_k».proof.Defs
public import proofs.«01_k».proof.Proof.Frames
public import proofs.«01_k».proof.Proof.Compare
public import proofs.«01_k».proof.Proof.Value

@[expose] public section

noncomputable section

namespace Cert.Proof

open Cert.Exchange

/-- The certificate's claim. -/
theorem claim : Cert.Claim := ⟨Cert.Kernel.Gen.facts, Cert.KernelIdeal.Gen.facts, Cert.ReferenceIdeal.Gen.facts, pre_facts, pre_facts_whole,
  frame_kernel, frame_ideal, frame_ideal_pre, frame_plain, frame_plain_pre, trivial, algebraic main_eq⟩

end Cert.Proof

end
